-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_points [hPre_zero_points : Cert.Pre_zero_points.Facts] (m : (ℓ : Loc Cert.KernelIdeal.nD Cert.KernelIdeal.τ Cert.KernelIdeal.sig) → Buf (Elt Ideal) ℓ) : Prop :=
  ∀ c : Dev Cert.KernelIdeal.nD,
    (Cert.Pre_zero_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_points [hPre_zero_points : Cert.Pre_zero_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_zero_points [hKernelIdeal : Cert.KernelIdeal.Facts] [hPre_zero_points : Cert.Pre_zero_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_zero_points [hReferenceIdeal : Cert.ReferenceIdeal.Facts] [hPre_zero_points : Cert.Pre_zero_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_zero_points [hKernelIdeal : Cert.KernelIdeal.Facts] [hReferenceIdeal : Cert.ReferenceIdeal.Facts] [hPre_zero_points : Cert.Pre_zero_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_zero_points : Cert.Pre_zero_points.Facts),
    quiescent_Kernel (hKernel := hKernel)
    ∧ quiescent_KernelIdeal (hKernelIdeal := hKernelIdeal)
    ∧ quiescent_KernelIdeal_pre_zero_points (hKernelIdeal := hKernelIdeal) (hPre_zero_points := hPre_zero_points)
    ∧ quiescent_ReferenceIdeal (hReferenceIdeal := hReferenceIdeal)
    ∧ quiescent_ReferenceIdeal_pre_zero_points (hReferenceIdeal := hReferenceIdeal) (hPre_zero_points := hPre_zero_points)
    ∧ preserves_Kernel_KernelIdeal
    ∧ algebraic_KernelIdeal_ReferenceIdeal_pre_zero_points (hKernelIdeal := hKernelIdeal) (hReferenceIdeal := hReferenceIdeal) (hPre_zero_points := hPre_zero_points)
-- ==== Pre_zero_points.lean ====
abbrev S4x1792x4096 : Shape := ⟨3, ![4, 1792, 4096]⟩
abbrev S_ : Shape := ⟨0, ![]⟩
abbrev S2048x11008 : Shape := ⟨2, ![2048, 11008]⟩
abbrev S11008 : Shape := ⟨1, ![11008]⟩

class Facts : Prop where
  bcast_S_S11008 : S_.BroadcastsInDim S11008 (![] : Fin 0 → Fin S11008.rank)

variable [Facts]

def fn {F : FTy → Type} [FloatOps F] (main_arg0 : IVec S4x1792x4096 8) (main_arg1 : IVec S_ 32) (main_arg2 : IVec S2048x11008 8) (main_arg3 : IVec S11008 32) (main_arg4 : IVec S11008 32) (main_arg5 : IVec S11008 32) (main_arg6 : IVec S11008 32) (main_arg7 : IVec S_ 32) : IVec S11008 1 :=
  let main_c : IVec S_ 32 := constantI S_ 32 0#32
  let main_v0 : IVec S11008 32 := broadcastInDim S11008 ![] bcast_S_S11008 main_c
  let main_v1 : IVec S11008 1 := cmpi .sge main_arg3 main_v0
  let main_c_0 : IVec S_ 32 := constantI S_ 32 15#32
  let main_v2 : IVec S11008 32 := broadcastInDim S11008 ![] bcast_S_S11008 main_c_0
  let main_v3 : IVec S11008 1 := cmpi .sle main_arg3 main_v2
  let main_v4 : IVec S11008 1 := andi main_v1 main_v3
  main_v4
-- ==== Kernel.lean ====
abbrev S4x1792x4096 : Shape := ⟨3, ![4, 1792, 4096]⟩
abbrev S_ : Shape := ⟨0, ![]⟩
abbrev S2048x11008 : Shape := ⟨2, ![2048, 11008]⟩
abbrev S11008 : Shape := ⟨1, ![11008]⟩
abbrev S1x11008 : Shape := ⟨2, ![1, 11008]⟩
abbrev S8x11008 : Shape := ⟨2, ![8, 11008]⟩
abbrev S1 : Shape := ⟨1, ![1]⟩
abbrev S2 : Shape := ⟨1, ![2]⟩
abbrev S11264 : Shape := ⟨1, ![11264]⟩
abbrev S22x512 : Shape := ⟨2, ![22, 512]⟩
abbrev S22 : Shape := ⟨1, ![22]⟩
abbrev S7168x4096 : Shape := ⟨2, ![7168, 4096]⟩
abbrev S7168x11008 : Shape := ⟨2, ![7168, 11008]⟩
abbrev S1024x4096 : Shape := ⟨2, ![1024, 4096]⟩
abbrev S2048x512 : Shape := ⟨2, ![2048, 512]⟩
abbrev S8x512 : Shape := ⟨2, ![8, 512]⟩
abbrev S1024x512 : Shape := ⟨2, ![1024, 512]⟩
abbrev S4096x512 : Shape := ⟨2, ![4096, 512]⟩
abbrev S1x512 : Shape := ⟨2, ![1, 512]⟩
abbrev S512 : Shape := ⟨1, ![512]⟩
abbrev S4x1792x11008 : Shape := ⟨3, ![4, 1792, 11008]⟩

abbrev nBuf : Space → Nat
  | .hbm => 64
  | .vmem => 11
  | .smem => 2
  | _ => 0

abbrev bufTy : (tb : Table) → Fin (tcTables nBuf tb) → BufTy
  | .hbm, ⟨0, _⟩ => ⟨S4x1792x4096, .i8⟩
  | .hbm, ⟨1, _⟩ => ⟨S_, .i32⟩
  | .hbm, ⟨2, _⟩ => ⟨S2048x11008, .i8⟩
  | .hbm, ⟨3, _⟩ => ⟨S11008, .i32⟩
  | .hbm, ⟨4, _⟩ => ⟨S11008, .i32⟩
  | .hbm, ⟨5, _⟩ => ⟨S11008, .i32⟩
  | .hbm, ⟨6, _⟩ => ⟨S11008, .i32⟩
  | .hbm, ⟨7, _⟩ => ⟨S_, .i32⟩
  | .hbm, ⟨8, _⟩ => ⟨S_, .i32⟩
  | .hbm, ⟨9, _⟩ => ⟨S11008, .i32⟩
  | .hbm, ⟨10, _⟩ => ⟨S1x11008, .i32⟩
  | .hbm, ⟨11, _⟩ => ⟨S1x11008, .i32⟩
  | .hbm, ⟨12, _⟩ => ⟨S1x11008, .i32⟩
  | .hbm, ⟨13, _⟩ => ⟨S1x11008, .i32⟩
  | .hbm, ⟨14, _⟩ => ⟨S1x11008, .i32⟩
  | .hbm, ⟨15, _⟩ => ⟨S1x11008, .i32⟩
  | .hbm, ⟨16, _⟩ => ⟨S1x11008, .i32⟩
  | .hbm, ⟨17, _⟩ => ⟨S1x11008, .i32⟩
  | .hbm, ⟨18, _⟩ => ⟨S8x11008, .i32⟩
  | .hbm, ⟨19, _⟩ => ⟨S1, .i32⟩
  | .hbm, ⟨20, _⟩ => ⟨S1, .i32⟩
  | .hbm, ⟨21, _⟩ => ⟨S_, .i32⟩
  | .hbm, ⟨22, _⟩ => ⟨S11008, .i32⟩
  | .hbm, ⟨23, _⟩ => ⟨S11008, .i1⟩
  | .hbm, ⟨24, _⟩ => ⟨S_, .i32⟩
  | .hbm, ⟨25, _⟩ => ⟨S11008, .i32⟩
  | .hbm, ⟨26, _⟩ => ⟨S11008, .i1⟩
  | .hbm, ⟨27, _⟩ => ⟨S11008, .i1⟩
  | .hbm, ⟨28, _⟩ => ⟨S_, .i32⟩
  | .hbm, ⟨29, _⟩ => ⟨S11008, .i32⟩
  | .hbm, ⟨30, _⟩ => ⟨S11008, .i1⟩
  | .hbm, ⟨31, _⟩ => ⟨S11008, .i1⟩
  | .hbm, ⟨32, _⟩ => ⟨S_, .i32⟩
  | .hbm, ⟨33, _⟩ => ⟨S11008, .i32⟩
  | .hbm, ⟨34, _⟩ => ⟨S11008, .i1⟩
  | .hbm, ⟨35, _⟩ => ⟨S11008, .i1⟩
  | .hbm, ⟨36, _⟩ => ⟨S_, .i32⟩
  | .hbm, ⟨37, _⟩ => ⟨S11008, .i32⟩
  | .hbm, ⟨38, _⟩ => ⟨S11008, .i1⟩
  | .hbm, ⟨39, _⟩ => ⟨S11008, .i1⟩
  | .hbm, ⟨40, _⟩ => ⟨S_, .i32⟩
  | .hbm, ⟨41, _⟩ => ⟨S_, .i1⟩
  | .hbm, ⟨42, _⟩ => ⟨S11008, .i1⟩
  | .hbm, ⟨43, _⟩ => ⟨S11008, .i1⟩
  | .hbm, ⟨44, _⟩ => ⟨S_, .i32⟩
  | .hbm, ⟨45, _⟩ => ⟨S_, .i1⟩
  | .hbm, ⟨46, _⟩ => ⟨S11008, .i1⟩
  | .hbm, ⟨47, _⟩ => ⟨S11008, .i1⟩
  | .hbm, ⟨48, _⟩ => ⟨S_, .i32⟩
  | .hbm, ⟨49, _⟩ => ⟨S_, .i1⟩
  | .hbm, ⟨50, _⟩ => ⟨S11008, .i1⟩
  | .hbm, ⟨51, _⟩ => ⟨S11008, .i1⟩
  | .hbm, ⟨52, _⟩ => ⟨S_, .i32⟩
  | .hbm, ⟨53, _⟩ => ⟨S_, .i1⟩
  | .hbm, ⟨54, _⟩ => ⟨S11008, .i1⟩
  | .hbm, ⟨55, _⟩ => ⟨S11008, .i1⟩
  | .hbm, ⟨56, _⟩ => ⟨S_, .i1⟩
  | .hbm, ⟨57, _⟩ => ⟨S11264, .i1⟩
  | .hbm, ⟨58, _⟩ => ⟨S22x512, .i1⟩
  | .hbm, ⟨59, _⟩ => ⟨S_, .i1⟩
  | .hbm, ⟨60, _⟩ => ⟨S22, .i1⟩
  | .hbm, ⟨61, _⟩ => ⟨S7168x4096, .i8⟩
  | .hbm, ⟨62, _⟩ => ⟨S7168x11008, .i8⟩
  | .hbm, ⟨63, _⟩ => ⟨S4x1792x11008, .i8⟩
  | .local _ .vmem, ⟨0, _⟩ => ⟨S1024x4096, .i8⟩
  | .local _ .vmem, ⟨1, _⟩ => ⟨S1024x4096, .i8⟩
  | .local _ .vmem, ⟨2, _⟩ => ⟨S2048x512, .i8⟩
  | .local _ .vmem, ⟨3, _⟩ => ⟨S2048x512, .i8⟩
  | .local _ .vmem, ⟨4, _⟩ => ⟨S8x512, .i32⟩
  | .local _ .vmem, ⟨5, _⟩ => ⟨S8x512, .i32⟩
  | .local _ .vmem, ⟨6, _⟩ => ⟨S1024x512, .i8⟩
  | .local _ .vmem, ⟨7, _⟩ => ⟨S1024x512, .i8⟩
  | .local _ .vmem, ⟨8, _⟩ => ⟨S1024x4096, .bf16⟩
  | .local _ .vmem, ⟨9, _⟩ => ⟨S4096x512, .bf16⟩
  | .local _ .vmem, ⟨10, _⟩ => ⟨S1024x512, .f32⟩
  | .local _ .smem, ⟨0, _⟩ => ⟨S2, .i32⟩
  | .local _ .smem, ⟨1, _⟩ => ⟨S22, .i32⟩
  | _, _ => ⟨S4x1792x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v12 : Ref sig .tc := ⟨.smem, 0, rfl⟩
abbrev main_v42 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 22], ![false, false]⟩

abbrev pre0 : Pipeline.Prefetch sig := ⟨2, ![main_v12.idx, main_v42.idx], fun | 0 => main_v12.names | 1 => main_v42.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v51 : Index := Scalar.indexCast arg1
  ![v51.toNat]
def k0_cond2 (v52 : BitVec 32) : BitVec 1 :=
  let c0_i32_19 : BitVec 32 := 0#32
  let v53 : BitVec 1 := Scalar.cmpi .ne v52 c0_i32_19
  let v54 : BitVec 32 := Scalar.extui v53
  let c0_i32_20 : BitVec 32 := 0#32
  let v55 : BitVec 1 := Scalar.cmpi .ne v54 c0_i32_20
  v55

def k0_cond3 (v52 : BitVec 32) : BitVec 1 :=
  let c0_i32_19 : BitVec 32 := 0#32
  let v53 : BitVec 1 := Scalar.cmpi .ne v52 c0_i32_19
  let v_true : BitVec 1 := 1#1
  let v56 : BitVec 1 := Scalar.xori v53 v_true
  let v57 : BitVec 32 := Scalar.extui v56
  let c0_i32_21 : BitVec 32 := 0#32
  let v58 : BitVec 1 := Scalar.cmpi .ne v57 c0_i32_21
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x1792x4096 : Shape := ⟨3, ![4, 1792, 4096]⟩
abbrev S_ : Shape := ⟨0, ![]⟩
abbrev S2048x11008 : Shape := ⟨2, ![2048, 11008]⟩
abbrev S11008 : Shape := ⟨1, ![11008]⟩
abbrev S4x1792x2048 : Shape := ⟨3, ![4, 1792, 2048]⟩
abbrev S4x1792x2048x1 : Shape := ⟨4, ![4, 1792, 2048, 1]⟩
abbrev S1x1x2048x11008 : Shape := ⟨4, ![1, 1, 2048, 11008]⟩
abbrev S4x1792x2048x11008 : Shape := ⟨4, ![4, 1792, 2048, 11008]⟩
abbrev S4x1792x11008 : Shape := ⟨3, ![4, 1792, 11008]⟩
abbrev S4x1792 : Shape := ⟨2, ![4, 1792]⟩
abbrev S4x1792x1 : Shape := ⟨3, ![4, 1792, 1]⟩
abbrev S1x1x11008 : Shape := ⟨3, ![1, 1, 11008]⟩

abbrev nBuf : Space → Nat
  | .hbm => 173
  | .vmem => 0
  | .smem => 0
  | _ => 0

abbrev hbmTy0_0 (i : Nat) : BufTy := match i % 128 with
  | 0 => ⟨S4x1792x4096, .i8⟩
  | 1 => ⟨S_, .i32⟩
  | 2 => ⟨S2048x11008, .i8⟩
  | 3 => ⟨S11008, .i32⟩
  | 4 => ⟨S11008, .i32⟩
  | 5 => ⟨S11008, .i32⟩
  | 6 => ⟨S11008, .i32⟩
  | 7 => ⟨S_, .i32⟩
  | 8 => ⟨S2048x11008, .i32⟩
  | 9 => ⟨S_, .i32⟩
  | 10 => ⟨S2048x11008, .i32⟩
  | 11 => ⟨S2048x11008, .i32⟩
  | 12 => ⟨S_, .i32⟩
  | 13 => ⟨S2048x11008, .i32⟩
  | 14 => ⟨S2048x11008, .i32⟩
  | 15 => ⟨S4x1792x4096, .i32⟩
  | 16 => ⟨S4x1792x2048, .i32⟩
  | 17 => ⟨S4x1792x2048x1, .i32⟩
  | 18 => ⟨S1x1x2048x11008, .i32⟩
  | 19 => ⟨S4x1792x2048x11008, .i32⟩
  | 20 => ⟨S4x1792x2048x11008, .i32⟩
  | 21 => ⟨S4x1792x2048x11008, .i32⟩
  | 22 => ⟨S_, .i32⟩
  | 23 => ⟨S4x1792x11008, .i32⟩
  | 24 => ⟨S4x1792x2048, .i32⟩
  | 25 => ⟨S4x1792x2048x1, .i32⟩
  | 26 => ⟨S1x1x2048x11008, .i32⟩
  | 27 => ⟨S4x1792x2048x11008, .i32⟩
  | 28 => ⟨S4x1792x2048x11008, .i32⟩
  | 29 => ⟨S4x1792x2048x11008, .i32⟩
  | 30 => ⟨S_, .i32⟩
  | 31 => ⟨S4x1792x11008, .i32⟩
  | 32 => ⟨S4x1792x11008, .i32⟩
  | 33 => ⟨S4x1792x4096, .i32⟩
  | 34 => ⟨S_, .i32⟩
  | 35 => ⟨S4x1792, .i32⟩
  | 36 => ⟨S4x1792x1, .i32⟩
  | 37 => ⟨S_, .i32⟩
  | 38 => ⟨S11008, .i32⟩
  | 39 => ⟨S_, .i32⟩
  | 40 => ⟨S11008, .i32⟩
  | 41 => ⟨S11008, .i32⟩
  | 42 => ⟨S1x1x11008, .i32⟩
  | 43 => ⟨S4x1792x11008, .i32⟩
  | 44 => ⟨S4x1792x11008, .i32⟩
  | 45 => ⟨S4x1792x11008, .i32⟩
  | 46 => ⟨S4x1792x11008, .i32⟩
  | 47 => ⟨S11008, .i32⟩
  | 48 => ⟨S11008, .i32⟩
  | 49 => ⟨S1x1x11008, .i32⟩
  | 50 => ⟨S4x1792x11008, .i32⟩
  | 51 => ⟨S4x1792x11008, .i32⟩
  | 52 => ⟨S_, .i32⟩
  | 53 => ⟨S_, .i32⟩
  | 54 => ⟨S11008, .i32⟩
  | 55 => ⟨S11008, .i32⟩
  | 56 => ⟨S1x1x11008, .i32⟩
  | 57 => ⟨S4x1792x11008, .i32⟩
  | 58 => ⟨S4x1792x11008, .i32⟩
  | 59 => ⟨S1x1x11008, .i32⟩
  | 60 => ⟨S4x1792x11008, .i32⟩
  | 61 => ⟨S4x1792x11008, .i32⟩
  | 62 => ⟨S_, .i32⟩
  | 63 => ⟨S4x1792x11008, .i32⟩
  | 64 => ⟨S4x1792x11008, .i1⟩
  | 65 => ⟨S4x1792x11008, .i32⟩
  | 66 => ⟨S4x1792x11008, .i32⟩
  | 67 => ⟨S11008, .i32⟩
  | 68 => ⟨S_, .i32⟩
  | 69 => ⟨S_, .i32⟩
  | 70 => ⟨S4x1792x11008, .i32⟩
  | 71 => ⟨S4x1792x11008, .i32⟩
  | 72 => ⟨S4x1792x11008, .i32⟩
  | 73 => ⟨S_, .i32⟩
  | 74 => ⟨S4x1792x11008, .i32⟩
  | 75 => ⟨S4x1792x11008, .i32⟩
  | 76 => ⟨S_, .i32⟩
  | 77 => ⟨S4x1792x11008, .i32⟩
  | 78 => ⟨S4x1792x11008, .i32⟩
  | 79 => ⟨S_, .i32⟩
  | 80 => ⟨S11008, .i32⟩
  | 81 => ⟨S11008, .i32⟩
  | 82 => ⟨S_, .i32⟩
  | 83 => ⟨S11008, .i32⟩
  | 84 => ⟨S11008, .i32⟩
  | 85 => ⟨S1x1x11008, .i32⟩
  | 86 => ⟨S4x1792x11008, .i32⟩
  | 87 => ⟨S4x1792x11008, .i32⟩
  | 88 => ⟨S1x1x11008, .i32⟩
  | 89 => ⟨S4x1792x11008, .i32⟩
  | 90 => ⟨S4x1792x11008, .i32⟩
  | 91 => ⟨S1x1x11008, .i32⟩
  | 92 => ⟨S4x1792x11008, .i32⟩
  | 93 => ⟨S4x1792x11008, .i32⟩
  | 94 => ⟨S4x1792x11008, .i32⟩
  | 95 => ⟨S1x1x11008, .i32⟩
  | 96 => ⟨S4x1792x11008, .i32⟩
  | 97 => ⟨S4x1792x11008, .i32⟩
  | 98 => ⟨S_, .i32⟩
  | 99 => ⟨S4x1792x11008, .i32⟩
  | 100 => ⟨S4x1792x11008, .i32⟩
  | 101 => ⟨S_, .i32⟩
  | 102 => ⟨S4x1792x11008, .i32⟩
  | 103 => ⟨S4x1792x11008, .i32⟩
  | 104 => ⟨S4x1792x11008, .i32⟩
  | 105 => ⟨S_, .i32⟩
  | 106 => ⟨S4x1792x11008, .i32⟩
  | 107 => ⟨S4x1792x11008, .i32⟩
  | 108 => ⟨S_, .i32⟩
  | 109 => ⟨S4x1792x11008, .i32⟩
  | 110 => ⟨S4x1792x11008, .i32⟩
  | 111 => ⟨S_, .i32⟩
  | 112 => ⟨S4x1792x11008, .i32⟩
  | 113 => ⟨S4x1792x11008, .i32⟩
  | 114 => ⟨S4x1792x11008, .i32⟩
  | 115 => ⟨S_, .i32⟩
  | 116 => ⟨S4x1792x11008, .i32⟩
  | 117 => ⟨S4x1792x11008, .i32⟩
  | 118 => ⟨S4x1792x11008, .i32⟩
  | 119 => ⟨S_, .i32⟩
  | 120 => ⟨S4x1792x11008, .i32⟩
  | 121 => ⟨S4x1792x11008, .i32⟩
  | 122 => ⟨S4x1792x11008, .i32⟩
  | 123 => ⟨S4x1792x11008, .i32⟩
  | 124 => ⟨S4x1792x11008, .i1⟩
  | 125 => ⟨S4x1792x11008, .i32⟩
  | 126 => ⟨S4x1792x11008, .i32⟩
  | 127 => ⟨S_, .i32⟩
  | _ => ⟨S4x1792x4096, .i8⟩

abbrev hbmTy0_1 (i : Nat) : BufTy := match i % 128 with
  | 0 => ⟨S4x1792x11008, .i32⟩
  | 1 => ⟨S4x1792x11008, .i32⟩
  | 2 => ⟨S_, .i32⟩
  | 3 => ⟨S4x1792x11008, .i32⟩
  | 4 => ⟨S4x1792x11008, .i32⟩
  | 5 => ⟨S4x1792x11008, .i32⟩
  | 6 => ⟨S4x1792x11008, .i32⟩
  | 7 => ⟨S4x1792x11008, .i32⟩
  | 8 => ⟨S4x1792x11008, .i32⟩
  | 9 => ⟨S_, .i32⟩
  | 10 => ⟨S11008, .i32⟩
  | 11 => ⟨S11008, .i32⟩
  | 12 => ⟨S_, .i32⟩
  | 13 => ⟨S11008, .i32⟩
  | 14 => ⟨S11008, .i32⟩
  | 15 => ⟨S1x1x11008, .i32⟩
  | 16 => ⟨S4x1792x11008, .i32⟩
  | 17 => ⟨S4x1792x11008, .i32⟩
  | 18 => ⟨S_, .i32⟩
  | 19 => ⟨S11008, .i32⟩
  | 20 => ⟨S11008, .i32⟩
  | 21 => ⟨S_, .i32⟩
  | 22 => ⟨S4x1792x11008, .i32⟩
  | 23 => ⟨S4x1792x11008, .i1⟩
  | 24 => ⟨S4x1792x11008, .i32⟩
  | 25 => ⟨S1x1x11008, .i32⟩
  | 26 => ⟨S4x1792x11008, .i32⟩
  | 27 => ⟨S4x1792x11008, .i32⟩
  | 28 => ⟨S1x1x11008, .i32⟩
  | 29 => ⟨S4x1792x11008, .i32⟩
  | 30 => ⟨S4x1792x11008, .i32⟩
  | 31 => ⟨S4x1792x11008, .i1⟩
  | 32 => ⟨S4x1792x11008, .i32⟩
  | 33 => ⟨S4x1792x11008, .i32⟩
  | 34 => ⟨S4x1792x11008, .i32⟩
  | 35 => ⟨S4x1792x11008, .i32⟩
  | 36 => ⟨S_, .i32⟩
  | 37 => ⟨S_, .i32⟩
  | 38 => ⟨S_, .i32⟩
  | 39 => ⟨S4x1792x11008, .i32⟩
  | 40 => ⟨S4x1792x11008, .i32⟩
  | 41 => ⟨S_, .i32⟩
  | 42 => ⟨S4x1792x11008, .i32⟩
  | 43 => ⟨S4x1792x11008, .i32⟩
  | 44 => ⟨S4x1792x11008, .i8⟩
  | _ => ⟨S4x1792x4096, .i8⟩

abbrev hbmTy (i : Nat) : BufTy := match i / 128 with
  | 0 => hbmTy0_0 i
  | 1 => hbmTy0_1 i
  | _ => ⟨S4x1792x4096, .i8⟩

abbrev bufTy : (tb : Table) → Fin (tcTables nBuf tb) → BufTy
  | .hbm, ⟨i, _⟩ => hbmTy i
  | _, _ => ⟨S4x1792x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_c_9 : Ref sig .tc := ⟨.hbm, 69, rfl⟩
abbrev main_call0_v0 : Ref sig .tc := ⟨.hbm, 70, rfl⟩
abbrev main_call0_v1 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_c_17 : Ref sig .tc := ⟨.hbm, 108, rfl⟩
abbrev main_v80 : Ref sig .tc := ⟨.hbm, 109, rfl⟩
abbrev main_v81 : Ref sig .tc := ⟨.hbm, 110, rfl⟩
abbrev main_c_18 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_21 : Ref sig .tc := ⟨.hbm, 127, rfl⟩
abbrev main_v95 : Ref sig .tc := ⟨.hbm, 128, rfl⟩
abbrev main_v96 : Ref sig .tc := ⟨.hbm, 129, rfl⟩
abbrev main_c_22 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_23 : Ref sig .tc := ⟨.hbm, 137, rfl⟩
abbrev main_v103 : Ref sig .tc := ⟨.hbm, 138, rfl⟩
abbrev main_v104 : Ref sig .tc := ⟨.hbm, 139, rfl⟩
abbrev main_c_24 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_25 : Ref sig .tc := ⟨.hbm, 146, rfl⟩
abbrev main_v110 : Ref sig .tc := ⟨.hbm, 147, rfl⟩
abbrev main_v111 : Ref sig .tc := ⟨.hbm, 148, rfl⟩
abbrev main_c_26 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_27 : Ref sig .tc := ⟨.hbm, 164, rfl⟩
abbrev main_c_28 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_v126 : Ref sig .tc := ⟨.hbm, 171, rfl⟩
abbrev main_v127 : Ref sig .tc := ⟨.hbm, 172, rfl⟩

abbrev nD : Nat := 1
abbrev τ : Topo := Topo.v7x

variable {F : FTy → Type} [FloatOps F]
-- ==== Proof.BodyIdeal.lean ====
/- The body of the kernel, run once at a symbolic grid point over any float values: from what the
   staging buffers, the two tables and the scratch buffers hold, to what they hold afterwards. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

abbrev 𝒱₀ : Variants := Variants.none

/-- The word that says whether the point is the first of its row block. -/
def cond1 (i : grid0.Coords) : BitVec 1 :=
  Scalar.cmpi .ne (Scalar.extui (Scalar.cmpi .eq (BitVec.ofNat 32 (i 1).val) 0#32) : BitVec 32) 0#32

theorem hz2 : (![0, 0] : Fin 2 → Nat) = fun _ => 0 := funext fun a => by fin_cases a <;> rfl

/-- The two words of the first table, and the word of the second table at the point's column tile. -/
def word0 (X2 : S2.Idx → Elt F .i32) : Elt F .i32 :=
  View.ld X2 (Rect.unit (s := S2) ![0] S1.size inb_S2_S1_0) (Shape.Idx.first (by decide))
def word1 (X2 : S2.Idx → Elt F .i32) : Elt F .i32 :=
  View.ld X2 (Rect.unit (s := S2) ![1] S1.size inb_S2_S1_1) (Shape.Idx.first (by decide))
def tileWord (i : grid0.Coords) (X3 : S22.Idx → Elt F .i32) : Elt F .i32 :=
  View.ld X3 (Rect.unit (s := S22) (k0_off1 i) S1.size (k0_off1_inb i)) (Shape.Idx.first (s := S1) (by decide))
/-- The four parameter rows of the block. -/
def row0 (X6 : S8x512.Idx → Elt F .i32) : S1x512.Idx → Elt F .i32 := View.ld X6 (Rect.unit (s := S8x512) ![0, 0] S1x512.size inb_S8x512_S1x512_0_0)
def row1 (X6 : S8x512.Idx → Elt F .i32) : S1x512.Idx → Elt F .i32 := View.ld X6 (Rect.unit (s := S8x512) ![1, 0] S1x512.size inb_S8x512_S1x512_1_0)
def row2 (X6 : S8x512.Idx → Elt F .i32) : S1x512.Idx → Elt F .i32 := View.ld X6 (Rect.unit (s := S8x512) ![2, 0] S1x512.size inb_S8x512_S1x512_2_0)
def row3 (X6 : S8x512.Idx → Elt F .i32) : S1x512.Idx → Elt F .i32 := View.ld X6 (Rect.unit (s := S8x512) ![3, 0] S1x512.size inb_S8x512_S1x512_3_0)

/-- The column constants of the block. -/
def colv (X2 : S2.Idx → Elt F .i32) (X5 : S2048x512.Idx → Elt F .i8) (X6 : S8x512.Idx → Elt F .i32) : IVec S1x512 32 :=
  k0_pay2 (F := F) (word0 X2) (k0_pay22 (F := F) (row0 X6)) (k0_pay23 (F := F) (row1 X6)) (k0_pay27 (F := F) X5)
/-- The right factor of the product. -/
def rhsv (X5 : S2048x512.Idx → Elt F .i8) (X6 : S8x512.Idx → Elt F .i32) : FVec F S4096x512 .bf16 :=
  k0_pay1 (k0_pay28 (row1 X6) X5)
/-- The product the block's accumulator holds, from the left factor kept in scratch. -/
def accv (X5 : S2048x512.Idx → Elt F .i8) (X6 : S8x512.Idx → Elt F .i32) (X8 : S1024x4096.Idx → Elt F .bf16) : FVec F S1024x512 .f32 :=
  k0_pay3 X8 (rhsv X5 X6)
/-- The block stored where the tile's word is set, -/
def fastv (X2 : S2.Idx → Elt F .i32) (X6 : S8x512.Idx → Elt F .i32) (c2 : IVec S1x512 32) (acc : FVec F S1024x512 .f32) : IVec S1024x512 8 :=
  k0_pay4 (k0_pay6 (word1 X2) (k0_pay24 (F := F) (row2 X6)) (k0_pay25 (F := F) (row3 X6)) c2 acc)
/-- and the one stored where it is not. -/
def slowv (X2 : S2.Idx → Elt F .i32) (X6 : S8x512.Idx → Elt F .i32) (c2 : IVec S1x512 32) (acc : FVec F S1024x512 .f32) : IVec S1024x512 8 :=
  k0_pay5 (F := F) (word1 X2) (k0_pay25 (F := F) (row3 X6)) (k0_pay8 c2 acc) (k0_pay10 c2 acc) (k0_pay17 (k0_pay24 (F := F) (row2 X6)) c2 acc)
    (k0_pay18 (k0_pay24 (F := F) (row2 X6)) c2 acc) (k0_pay19 (k0_pay24 (F := F) (row2 X6)) c2 acc) k0_pay20

/-- What the left factor's scratch holds after the point: at the first column tile the block converted, else what it held. -/
def lhsv (i : grid0.Coords) (X4 : S1024x4096.Idx → Elt F .i8) (X8 : S1024x4096.Idx → Elt F .bf16) : S1024x4096.Idx → Elt F .bf16 :=
  if cond1 i = 1#1 then k0_pay21 X4 else X8
/-- What the point stores. -/
def outv (i : grid0.Coords) (X2 : S2.Idx → Elt F .i32) (X3 : S22.Idx → Elt F .i32) (X4 : S1024x4096.Idx → Elt F .i8)
    (X5 : S2048x512.Idx → Elt F .i8) (X6 : S8x512.Idx → Elt F .i32) (X8 : S1024x4096.Idx → Elt F .bf16) : S1024x512.Idx → Elt F .i8 :=
  if k0_cond2 (tileWord i X3) = 1#1 then fastv X2 X6 (colv X2 X5 X6) (accv X5 X6 (lhsv i X4 X8))
  else slowv X2 X6 (colv X2 X5 X6) (accv X5 X6 (lhsv i X4 X8))

/-- One of the two conditions holds, whatever the word. -/
theorem cond3_of_cond2 (v : BitVec 32) (h : ¬ k0_cond2 v = 1#1) : k0_cond3 v = 1#1 := by
  unfold k0_cond2 at h; unfold k0_cond3
  revert h; dsimp only; generalize (Scalar.cmpi .ne v 0#32 : BitVec 1) = b; revert b; decide
theorem not_cond3_of_cond2 (v : BitVec 32) (h : k0_cond2 v = 1#1) : ¬ k0_cond3 v = 1#1 := by
  unfold k0_cond2 at h; unfold k0_cond3
  revert h; dsimp only; generalize (Scalar.cmpi .ne v 0#32 : BitVec 1) = b; revert b; decide

/-- One store over a whole buffer leaves its payload. -/
theorem read_store {S : Shape} {sp : Space} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)
/-- A load of a whole buffer reads what it holds. -/
theorem read_load {S : Shape} {sp : Space} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

section Run
variable (c : Dev nD) (E : Set ℕ) (i : grid0.Coords) (q2 q3 : PosShare TreeShare)
    (arg2 : Memref sig .tc .smem S2 .i32) (harg2 : arg2.IsWhole) (arg3 : Memref sig .tc .smem S22 .i32) (harg3 : arg3.IsWhole)
    (arg4 : Memref sig .tc .vmem S1024x4096 .i8) (harg4 : arg4.IsWhole) (arg5 : Memref sig .tc .vmem S2048x512 .i8) (harg5 : arg5.IsWhole)
    (arg6 : Memref sig .tc .vmem S8x512 .i32) (harg6 : arg6.IsWhole) (arg7 : Memref sig .tc .vmem S1024x512 .i8) (harg7 : arg7.IsWhole)
    (arg8 : Memref sig .tc .vmem S1024x4096 .bf16) (harg8 : arg8.IsWhole) (arg9 : Memref sig .tc .vmem S4096x512 .bf16) (harg9 : arg9.IsWhole)
    (arg10 : Memref sig .tc .vmem S1024x512 .f32) (harg10 : arg10.IsWhole)

/-- What the body holds before a point: the tables (read only), the staging buffers and the scratch buffers. -/
def Held (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16) : sProp 𝕄 :=
  iprop(owns (c : Thread nD τ) arg2 q2 X2 ∗ owns (c : Thread nD τ) arg3 q3 X3
    ∗ owns (c : Thread nD τ) arg4 fullShare X4 ∗ owns (c : Thread nD τ) arg5 fullShare X5 ∗ owns (c : Thread nD τ) arg6 fullShare X6
    ∗ owns (c : Thread nD τ) arg7 fullShare X7 ∗ owns (c : Thread nD τ) arg8 fullShare X8
    ∗ (∃ f, arg9.view.loc (c : Thread nD τ) ↦[arg9.view.set]{fullShare} f) ∗ (∃ f, arg10.view.loc (c : Thread nD τ) ↦[arg10.view.set]{fullShare} f))

theorem run_first_fast (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : cond1 i = 1#1) (h2 : k0_cond2 (tileWord i X3) = 1#1) (h3 : ¬ k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = k0_pay21 X4 from if_pos h1]
  rw [show outv i X2 X3 X4 X5 X6 X8 = fastv X2 X6 (colv X2 X5 X6) (accv X5 X6 (k0_pay21 X4)) from by
    rw [outv, if_pos h2, lhsv, if_pos h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → k0_cond2 v = 1#1 := fun v e => e ▸ h2
  have h3' : ∀ v, v = tileWord i (arg3.view.read (Elt F) f3) → ¬ k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_first_fast.sl.r_9
    delta run_first_fast.sl.v59 run_first_fast.sl.H10_1 run_first_fast.sl.v45 run_first_fast.sl.v46 run_first_fast.sl.H9_1 run_first_fast.sl.H8_1
    delta run_first_fast.sl.r run_first_fast.sl.r_1 run_first_fast.sl.r_2 run_first_fast.sl.r_3 run_first_fast.sl.r_4 run_first_fast.sl.r_5 run_first_fast.sl.r_6 run_first_fast.sl.r_7
    rw [View.readCov_unit_zero _ hz2, View.readCov_unit_zero _ hz2, View.readCov_unit_zero _ hz2, read_load arg5.view f5 hz2, read_load arg4.view f4 hz2]
    rfl
  isplitl [H8]
  · iexists _; isplitr
    rotate_left
    · iexact H8
    ipureintro
    delta run_first_fast.sl.H8_1; rw [read_store _ _ hz2]; exact congrArg k0_pay21 (read_load _ _ hz2 _)
  isplitl [H9]
  · iexists _; iexact H9
  · iexists _; iexact H10

theorem run_first_slow (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : cond1 i = 1#1) (h2 : ¬ k0_cond2 (tileWord i X3) = 1#1) (h3 : k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = k0_pay21 X4 from if_pos h1]
  rw [show outv i X2 X3 X4 X5 X6 X8 = slowv X2 X6 (colv X2 X5 X6) (accv X5 X6 (k0_pay21 X4)) from by
    rw [outv, if_neg h2, lhsv, if_pos h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → ¬ k0_cond2 v = 1#1 := fun v e => e ▸ h2
  have h3' : ∀ v, v = tileWord i (arg3.view.read (Elt F) f3) → k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_first_slow.sl.r_9 run_first_slow.sl.r_10 run_first_slow.sl.r_11 run_first_slow.sl.r_12 run_first_slow.sl.r_13
    delta run_first_slow.sl.v59 run_first_slow.sl.H10_1 run_first_slow.sl.v45 run_first_slow.sl.v46 run_first_slow.sl.H9_1 run_first_slow.sl.H8_1
    delta run_first_slow.sl.r run_first_slow.sl.r_1 run_first_slow.sl.r_2 run_first_slow.sl.r_3 run_first_slow.sl.r_4 run_first_slow.sl.r_5 run_first_slow.sl.r_6 run_first_slow.sl.r_7
    rw [View.readCov_unit_zero _ hz2, View.readCov_unit_zero _ hz2, View.readCov_unit_zero _ hz2, read_load arg5.view f5 hz2, read_load arg4.view f4 hz2]
    rfl
  isplitl [H8]
  · iexists _; isplitr
    rotate_left
    · iexact H8
    ipureintro
    delta run_first_slow.sl.H8_1; rw [read_store _ _ hz2]; exact congrArg k0_pay21 (read_load _ _ hz2 _)
  isplitl [H9]
  · iexists _; iexact H9
  · iexists _; iexact H10

theorem run_later_fast (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : ¬ cond1 i = 1#1) (h2 : k0_cond2 (tileWord i X3) = 1#1) (h3 : ¬ k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = X8 from if_neg h1]
  rw [show outv i X2 X3 X4 X5 X6 X8 = fastv X2 X6 (colv X2 X5 X6) (accv X5 X6 X8) from by
    rw [outv, if_pos h2, lhsv, if_neg h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → k0_cond2 v = 1#1 := fun v e => e ▸ h2
  have h3' : ∀ v, v = tileWord i (arg3.view.read (Elt F) f3) → ¬ k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_later_fast.sl.r_9
    delta run_later_fast.sl.v59 run_later_fast.sl.H10_1 run_later_fast.sl.v46 run_later_fast.sl.H9_1
    delta run_later_fast.sl.r run_later_fast.sl.r_1 run_later_fast.sl.r_2 run_later_fast.sl.r_3 run_later_fast.sl.r_4 run_later_fast.sl.r_5 run_later_fast.sl.r_6 run_later_fast.sl.r_7
    rw [View.readCov_unit_zero _ hz2, View.readCov_unit_zero _ hz2, read_load arg5.view f5 hz2, read_load arg8.view f8 hz2]
    rfl
  isplitl [H8]
  · iexists _; isplitr
    rotate_left
    · iexact H8
    ipureintro
    rfl
  isplitl [H9]
  · iexists _; iexact H9
  · iexists _; iexact H10

theorem run_later_slow (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : ¬ cond1 i = 1#1) (h2 : ¬ k0_cond2 (tileWord i X3) = 1#1) (h3 : k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = X8 from if_neg h1]
  rw [show outv i X2 X3 X4 X5 X6 X8 = slowv X2 X6 (colv X2 X5 X6) (accv X5 X6 X8) from by
    rw [outv, if_neg h2, lhsv, if_neg h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → ¬ k0_cond2 v = 1#1 := fun v e => e ▸ h2
  have h3' : ∀ v, v = tileWord i (arg3.view.read (Elt F) f3) → k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_later_slow.sl.r_9 run_later_slow.sl.r_10 run_later_slow.sl.r_11 run_later_slow.sl.r_12 run_later_slow.sl.r_13
    delta run_later_slow.sl.v59 run_later_slow.sl.H10_1 run_later_slow.sl.v46 run_later_slow.sl.H9_1
    delta run_later_slow.sl.r run_later_slow.sl.r_1 run_later_slow.sl.r_2 run_later_slow.sl.r_3 run_later_slow.sl.r_4 run_later_slow.sl.r_5 run_later_slow.sl.r_6 run_later_slow.sl.r_7
    rw [View.readCov_unit_zero _ hz2, View.readCov_unit_zero _ hz2, read_load arg5.view f5 hz2, read_load arg8.view f8 hz2]
    rfl
  isplitl [H8]
  · iexists _; isplitr
    rotate_left
    · iexact H8
    ipureintro
    rfl
  isplitl [H9]
  · iexists _; iexact H9
  · iexists _; iexact H10

/-- THE BODY at any point, from any contents: the block and the scratch left factor it leaves are `outv` and `lhsv` of what it found. -/
theorem run_body (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16) (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  by_cases h1 : cond1 i = 1#1 <;> by_cases h2 : k0_cond2 (tileWord i X3) = 1#1
  · exact run_first_fast c E i q2 q3 arg2 harg2 arg3 harg3 arg4 harg4 arg5 harg5 arg6 harg6 arg7 harg7 arg8 harg8 arg9 harg9 arg10 harg10 X2 X3 X4 X5 X6 X7 X8 h1 h2 (not_cond3_of_cond2 _ h2) K
  · exact run_first_slow c E i q2 q3 arg2 harg2 arg3 harg3 arg4 harg4 arg5 harg5 arg6 harg6 arg7 harg7 arg8 harg8 arg9 harg9 arg10 harg10 X2 X3 X4 X5 X6 X7 X8 h1 h2 (cond3_of_cond2 _ h2) K
  · exact run_later_fast c E i q2 q3 arg2 harg2 arg3 harg3 arg4 harg4 arg5 harg5 arg6 harg6 arg7 harg7 arg8 harg8 arg9 harg9 arg10 harg10 X2 X3 X4 X5 X6 X7 X8 h1 h2 (not_cond3_of_cond2 _ h2) K
  · exact run_later_slow c E i q2 q3 arg2 harg2 arg3 harg3 arg4 harg4 arg5 harg5 arg6 harg6 arg7 harg7 arg8 harg8 arg9 harg9 arg10 harg10 X2 X3 X4 X5 X6 X7 X8 h1 h2 (cond3_of_cond2 _ h2) K

end Run

end Cert.KernelIdeal.Body
-- ==== Proof.RunIdeal.lean ====
/- The launch of the kernel: the contents its region is entered at, the two prefetched tables, the proof
   data of its one pipeline, what the input windows hold at a point, and the frame — every argument array
   ends unchanged and every semaphore is back at zero —, over any float values. -/
module

public import proofs.«01_k».proof.Proof.BodyIdeal
public import Idealize.ShloMosaic.Lib.Pipeline.FrameSuffix
public import Idealize.ShloMosaic.Lib.Pipeline.ClipFacts

@[expose] public section

set_option maxRecDepth 16384

noncomputable section

namespace Cert.KernelIdeal.Run

open Cert.KernelIdeal Cert.KernelIdeal.Gen Cert.KernelIdeal.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region. -/
abbrev before0 : List (List (HloOp τ sig (Elt F))) := [hostOps0, hostOps0_1, hostOps0_2]
/-- Device `c`'s buffers when the region is entered, -/
def V0 (c : Dev nD) : Valuation τ sig (Elt F) := StableHlo.after (before0 (F := F)).flatten (fun b => m (c, b))
/-- reference by reference. -/
def V (c : Dev nD) (b : Ref sig .tc) : Buf (Elt F) ((c : Thread nD τ).loc b) := V0 m c (Proc.devRef .tc b)

/-- The two tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table, so the pipeline's side condition is trivial. -/
abbrev adm : (p : Fin 1) → (pcfgs (F := F) p).Adm := fun _ => ⟨tbl m, trivial⟩
abbrev cfgM : Cfg sig Λ₀ := cfg0 (adm m 0)

abbrev tbM0 : Memref sig .tc .smem S2 .i32 := Memref.whole main_v12
abbrev tbM1 : Memref sig .tc .smem S22 .i32 := Memref.whole main_v42

/-- The tables' contents at the types the body reads them at. -/
def tb0 : S2.Idx → Elt F .i32 := V m (0 : Dev nD) main_v12
def tb1 : S22.Idx → Elt F .i32 := V m (0 : Dev nD) main_v42

/-- The tables' halves the body is handed, table by table. -/
theorem PhiT_eq (c : Dev nD) : (Pipeline.ΦT pre0 (tbl m) c : sProp 𝕄)
    = iprop(owns (c : Thread nD τ) tbM0 fullShare.right (tb0 m) ∗ owns (c : Thread nD τ) tbM1 fullShare.right (tb1 m)) := by
  rw [show (owns (c : Thread nD τ) tbM0 fullShare.right (tb0 m) : sProp 𝕄) = _ from owns_whole (c : Thread nD τ) main_v12 fullShare.right (tb0 m),
    show (owns (c : Thread nD τ) tbM1 fullShare.right (tb1 m) : sProp 𝕄) = _ from owns_whole (c : Thread nD τ) main_v42 fullShare.right (tb1 m)]
  unfold Pipeline.ΦT Pipeline.prefHeld
  rw [show (Finset.univ : Finset (Fin 2)) = insert (0 : Fin 2) {(1 : Fin 2)} from by decide, bigSep_insert (by decide), bigSep_singleton]
  rfl

/-- What the body leaves an input window's buffer at: its block, filled out where the block is cut. -/
def inBlk (c : Dev nD) (w : Fin 4) (t : Fin (cfgM m).N) : ((cfgM m).win w).block.Idx → Elt F ((cfgM m).win w).elt :=
  ((cfgM m).win w).fill ((cfgM m).grid.coords t) (fun _ => Classical.arbitrary _) (((cfgM m).win w).blk t |>.view.read (Elt F) (V m c (Pipeline.arrRef spec0 w)))

/-- The proof data of the pipeline: the arrays as the region finds them; the inputs left as their blocks, the output
    block at `out`; the invariant `Φ`. -/
def dat (out : Fin (cfgM m).N → S1024x512.Idx → Elt F .i8) (Φ : Dev nD → Fin ((cfgM m).N + 1) → sProp 𝕄) (_ : Fin 1) (c : Dev nD) :
    Dat τ (Elt F) Unit ℕ (UR sig nD τ) ℕ (cfgM m) c where
  A w := V m c (Pipeline.arrRef spec0 w)
  after w t := match w with
    | ⟨0, _⟩ => inBlk m c 0 t
    | ⟨1, _⟩ => inBlk m c 1 t
    | ⟨2, _⟩ => inBlk m c 2 t
    | ⟨3, _⟩ => out t
  Φ t := Φ c t
  q _ := fullShare
  owed _ := 0

variable (out : Fin (cfgM m).N → S1024x512.Idx → Elt F .i8)

theorem isOut_in (w : Fin 4) (h : w ≠ 3) : ((cfgM m).win w).isOut = false := by
  fin_cases w <;> first | rfl | exact absurd rfl h
theorem idle_in (w : Fin 4) (h : w ≠ 3) (i) : (cfgM m).idle w i = false := by
  fin_cases w <;> first | rfl | exact absurd rfl h
theorem after_in (PHI : Dev nD → Fin ((cfgM m).N + 1) → sProp 𝕄) (w : Fin 4) (h : w ≠ 3) (c : Dev nD) (t) : (dat m out PHI 0 c).after w t = inBlk m c w t := by
  fin_cases w <;> first | rfl | exact absurd rfl h

/-- Blocks at one index are cut alike. -/
theorem clip_in (w : Fin 4) (h : w ≠ 3) (t t' : Fin (cfgM m).N) (e : ((cfgM m).win w).index t = ((cfgM m).win w).index t') :
    ((cfgM m).win w).clip ((cfgM m).grid.coords t) = ((cfgM m).win w).clip ((cfgM m).grid.coords t') := by
  match w, h, e with
  | ⟨0, _⟩, _, _ => rfl
  | ⟨1, _⟩, _, e => exact funext fun a => congrArg (fun ix : Fin 2 → Nat => Pipeline.Clip.of (ix a) (S2048x512.size a) (S2048x11008.size a)) e
  | ⟨2, _⟩, _, e => exact funext fun a => congrArg (fun ix : Fin 2 → Nat => Pipeline.Clip.of (ix a) (S8x512.size a) (S8x11008.size a)) e
  | ⟨3, _⟩, h, _ => exact absurd rfl h

/-- An input window's buffer holds, at every point, what a fetch there puts in it. -/
theorem before_in (PHI : Dev nD → Fin ((cfgM m).N + 1) → sProp 𝕄) (w : Fin 4) (h : w ≠ 3) (c : Dev nD) (t d) :
    (dat m out PHI 0 c).before w t d = (dat m out PHI 0 c).fetched w t d := by
  refine Dat.before_in_eq_fetched (dat m out PHI 0 c) w (isOut_in m w h) (idle_in m w h) (clip_in m w h) (fun t => ?_) t d
  rw [after_in m out PHI w h]
  exact Window.cut_fill _ _ _ _

theorem defs₀_row (t : Fin (cfgM m).N) : defs₀ (F := F) .tc (cfgM m).body ((cfgM m).bodyArgs t ((cfgM m).slots t))
    = cc0_gemm_u8_u4_requant (grid0.coords t) tbM0 (Memref.isWhole_whole _) tbM1 (Memref.isWhole_whole _)
        (((cfgM m).win 0).stage ((cfgM m).slots t 0)) (stage_whole0 0 _) (((cfgM m).win 1).stage ((cfgM m).slots t 1)) (stage_whole0 1 _)
        (((cfgM m).win 2).stage ((cfgM m).slots t 2)) (stage_whole0 2 _) (((cfgM m).win 3).stage ((cfgM m).slots t 3)) (stage_whole0 3 _)
        (Memref.whole cc0_scratch0) (Memref.isWhole_whole _) (Memref.whole cc0_scratch1) (Memref.isWhole_whole _)
        (Memref.whole cc0_scratch2) (Memref.isWhole_whole _) := by
  unfold defs₀; rw [Defs.onTc_tc]; rfl

/-- The windows whose contents the frame says nothing of: the output. -/
abbrev fgt : Fin 4 → Bool := fun | 0 => false | 1 => false | 2 => false | 3 => true | ⟨_ + 4, h⟩ => absurd h (Nat.not_lt.2 (Nat.le_add_left _ _))

theorem whole_pt (c : Dev nD) (b : Ref sig .tc) (f : Buf (Elt F) ((c : Thread nD τ).loc b)) :
    ((Memref.whole b).view.loc (c : Thread nD τ) ↦[(Memref.whole b).view.set]{fullShare} f : sProp 𝕄)
      = ((c : Thread nD τ).loc b ↦{fullShare} f) := by
  simp only [View.set_whole]

/-- An input's block filled over anything, cut and filled again over the same, is itself. -/
theorem refill_in (PHI : Dev nD → Fin ((cfgM m).N + 1) → sProp 𝕄) (w : Fin 4) (c : Dev nD) (t : Fin (cfgM m).N) (d) :
    ((cfgM m).win w).fill ((cfgM m).grid.coords t) d (((cfgM m).win w).cut ((cfgM m).grid.coords t) (inBlk m c w t))
      = (dat m out PHI 0 c).fetched w t d :=
  congrArg (((cfgM m).win w).fill ((cfgM m).grid.coords t) d) (Window.cut_fill _ _ _ _)

/-- A window whose blocks are never cut holds the whole block, whatever was there. -/
theorem fetched_0 (PHI : Dev nD → Fin ((cfgM m).N + 1) → sProp 𝕄) (c : Dev nD) (t : Fin (cfgM m).N) (d) :
    (dat m out PHI 0 c).fetched (0 : Fin 4) t d = inBlk m c 0 t :=
  Dat.fetched_of_clip_none (dat m out PHI 0 c) (0 : Fin 4) t (fun _ => rfl) d (fun _ => Classical.arbitrary _)

/-- The region's invariant: the tables, the generator, and the scratch buffers, the first one holding contents that are
    `good` at the point. -/
def PhiG (good : Fin ((cfgM m).N + 1) → (S1024x4096.Idx → Elt F .bf16) → Prop) (c : Dev nD) (t : Fin ((cfgM m).N + 1)) : sProp 𝕄 :=
  iprop((owns (c : Thread nD τ) tbM0 fullShare.right (tb0 m) ∗ owns (c : Thread nD τ) tbM1 fullShare.right (tb1 m))
    ∗ (∃ r, prngReg c r)
    ∗ (∃ X8, ⌜good t X8⌝ ∗ owns (c : Thread nD τ) (Memref.whole cc0_scratch0) fullShare X8)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f))

theorem PhiG_in (good : Fin ((cfgM m).N + 1) → (S1024x4096.Idx → Elt F .bf16) → Prop) (h0 : ∀ X8, good 0 X8) (c : Dev nD) :
    iprop(Pipeline.ΦA spec0 c ∗ Pipeline.ΦT pre0 (tbl m) c) ⊢ PhiG m good c 0 := by
  rw [PhiT_eq]
  unfold Pipeline.ΦA PhiG
  rw [scopedRest0_eq]
  iintro ⟨⟨⟨⟨%f8, H8⟩, H9, H10⟩, Hr⟩, Ht⟩
  isplitl [Ht]; · iexact Ht
  isplitl [Hr]; · iexact Hr
  isplitl [H8]
  · iexists f8; isplitr; · ipureintro; exact h0 f8
    rw [owns_whole]; iexact H8
  isplitl [H9]
  · icases H9 with ⟨%f, H⟩; iexists f; rw [whole_pt]; iexact H
  · icases H10 with ⟨%f, H⟩; iexists f; rw [whole_pt]; iexact H

theorem PhiG_out (good : Fin ((cfgM m).N + 1) → (S1024x4096.Idx → Elt F .bf16) → Prop) (c : Dev nD) (t) :
    PhiG m good c t ⊢ Pipeline.ΦA spec0 c := by
  unfold Pipeline.ΦA PhiG
  rw [scopedRest0_eq]
  iintro ⟨-, Hr, ⟨%X8, -, H8⟩, ⟨%f9, H9⟩, ⟨%f10, H10⟩⟩
  isplitr [Hr]
  · isplitl [H8]; · iexists X8; rw [owns_whole]; exact Entails.refl _
    isplitl [H9]
    · iexists f9; rw [whole_pt]; exact Entails.refl _
    · iexists f10; rw [whole_pt]; exact Entails.refl _
  · iexact Hr

/-- The body at a point, whatever the clipped buffers hold beyond their blocks: the inputs and the tables come back as
    they were, the output block holds `outv` of what was read, and the first scratch buffer is good for the next point. -/
theorem point (good : Fin ((cfgM m).N + 1) → (S1024x4096.Idx → Elt F .bf16) → Prop) (c : Dev nD) (t : Fin (cfgM m).N)
    (hg : ∀ X8, good t.castSucc X8 → good t.succ (lhsv (grid0.coords t) (inBlk m c 0 t) X8))
    (X5 : S2048x512.Idx → Elt F .i8) (X6 : S8x512.Idx → Elt F .i32) (X7 : S1024x512.Idx → Elt F .i8) (K : PUnit → sProp 𝕄) :
    iprop(PhiG m good c t.castSucc
      ∗ owns (c : Thread nD τ) (((cfgM m).win 0).stage ((cfgM m).slots t 0)) fullShare (inBlk m c 0 t)
      ∗ owns (c : Thread nD τ) (((cfgM m).win 1).stage ((cfgM m).slots t 1)) fullShare X5
      ∗ owns (c : Thread nD τ) (((cfgM m).win 2).stage ((cfgM m).slots t 2)) fullShare X6
      ∗ owns (c : Thread nD τ) (((cfgM m).win 3).stage ((cfgM m).slots t 3)) fullShare X7
      ∗ (∀ X8, ⌜good t.castSucc X8⌝ -∗ (PhiG m good c t.succ
          ∗ owns (c : Thread nD τ) (((cfgM m).win 0).stage ((cfgM m).slots t 0)) fullShare (inBlk m c 0 t)
          ∗ owns (c : Thread nD τ) (((cfgM m).win 1).stage ((cfgM m).slots t 1)) fullShare X5
          ∗ owns (c : Thread nD τ) (((cfgM m).win 2).stage ((cfgM m).slots t 2)) fullShare X6
          ∗ owns (c : Thread nD τ) (((cfgM m).win 3).stage ((cfgM m).slots t 3)) fullShare
              (outv (grid0.coords t) (tb0 m) (tb1 m) (inBlk m c 0 t) X5 X6 X8)) -∗ K ⟨⟩))
      ⊢ wp frame (wpE (defs₀ (F := F)) 𝒱₀ c none) Set.univ (defs₀ (F := F) .tc (cfgM m).body ((cfgM m).bodyArgs t ((cfgM m).slots t))) K := by
  rw [defs₀_row]
  unfold PhiG
  iintro ⟨⟨⟨H2, H3⟩, Hr, ⟨%X8, %h8, H8⟩, H9, H10⟩, H4, H5, H6, H7, HK⟩
  iapply (run_body c Set.univ (grid0.coords t) fullShare.right fullShare.right tbM0 (Memref.isWhole_whole _) tbM1 (Memref.isWhole_whole _)
        (((cfgM m).win 0).stage ((cfgM m).slots t 0)) (stage_whole0 0 _) (((cfgM m).win 1).stage ((cfgM m).slots t 1)) (stage_whole0 1 _)
        (((cfgM m).win 2).stage ((cfgM m).slots t 2)) (stage_whole0 2 _) (((cfgM m).win 3).stage ((cfgM m).slots t 3)) (stage_whole0 3 _)
        (Memref.whole cc0_scratch0) (Memref.isWhole_whole _) (Memref.whole cc0_scratch1) (Memref.isWhole_whole _)
        (Memref.whole cc0_scratch2) (Memref.isWhole_whole _) (tb0 m) (tb1 m) (inBlk m c 0 t) X5 X6 X7 X8 K)
  unfold Held
  isplitr [Hr HK]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨H2, H3, H4, H5, H6, H7, H8, H9, H10⟩
    iapply HK $$ %X8 %h8
    isplitl [H2 H3 Hr H8 H9 H10]
    · isplitl [H2 H3]
      · isplitl [H2]; · iexact H2
        iexact H3
      isplitl [Hr]; · iexact Hr
      isplitl [H8]
      · iexists _; isplitr; · ipureintro; exact hg X8 h8
        iexact H8
      isplitl [H9]; · iexact H9
      iexact H10
    isplitl [H4]; · iexact H4
    isplitl [H5]; · iexact H5
    isplitl [H6]; · iexact H6
    iexact H7

end Cert.KernelIdeal.Run
-- ==== Proof.FrameIdeal.lean ====
/- The launch of the kernel: the body obligation, with the output block's contents unnamed and named; and the frame —
   every argument array ends unchanged and every semaphore is back at zero —, over any float values. -/
module

public import proofs.«01_k».proof.Proof.RunIdeal

@[expose] public section

set_option maxRecDepth 16384

noncomputable section

namespace Cert.KernelIdeal.Run

open Cert.KernelIdeal Cert.KernelIdeal.Gen Cert.KernelIdeal.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)
variable (out : Fin (cfgM m).N → S1024x512.Idx → Elt F .i8)

/-- An input's buffer, as the body hands it back. -/
theorem leave_in (PHI : Dev nD → Fin ((cfgM m).N + 1) → sProp 𝕄) (w : Fin 4) (h : w ≠ 3) (c : Dev nD) (t : Fin (cfgM m).N) (d) :
    (owns (c : Thread nD τ) (((cfgM m).win w).stage ((cfgM m).slots t w)) fullShare ((dat m out PHI 0 c).fetched w t d) : sProp 𝕄)
      ⊢ ∃ d', owns (c : Thread nD τ) (((cfgM m).win w).stage ((cfgM m).slots t w)) fullShare
          (((cfgM m).win w).fill ((cfgM m).grid.coords t) d' (((cfgM m).win w).cut ((cfgM m).grid.coords t) ((dat m out PHI 0 c).after w t))) := by
  iintro H
  iexists d
  rw [after_in m out PHI w h, refill_in m out PHI w c t d]
  iexact H

/-- The output's buffer, as the body hands it back: what matters is the part inside the array. -/
theorem leave_out (PHI : Dev nD → Fin ((cfgM m).N + 1) → sProp 𝕄) (c : Dev nD) (t : Fin (cfgM m).N)
    (Y : ((cfgM m).win 3).block.Idx → Elt F ((cfgM m).win 3).elt)
    (h : ((cfgM m).win 3).cut ((cfgM m).grid.coords t) (out t) = ((cfgM m).win 3).cut ((cfgM m).grid.coords t) Y) :
    (owns (c : Thread nD τ) (((cfgM m).win 3).stage ((cfgM m).slots t 3)) fullShare Y : sProp 𝕄)
      ⊢ ∃ d', owns (c : Thread nD τ) (((cfgM m).win 3).stage ((cfgM m).slots t 3)) fullShare
          (((cfgM m).win 3).fill ((cfgM m).grid.coords t) d' (((cfgM m).win 3).cut ((cfgM m).grid.coords t) ((dat m out PHI 0 c).after 3 t))) := by
  iintro H
  iexists Y
  rw [show (dat m out PHI 0 c).after 3 t = out t from rfl, h, Window.fill_cut]
  iexact H

/-- The body obligation of the frame, the output block's contents unnamed. -/
theorem body_frame (c : Dev nD) :
    BodyObligationLoose (dat m out (PhiG m fun _ _ => True) 0 c) (defs₀ (F := F)) 𝒱₀ () Set.univ fgt := by
  intro t
  rw [bigSep_W0, bigSep_W0]
  simp only
  rw [show (dat m out (PhiG m fun _ _ => True) 0 c).Φ = PhiG m (fun _ _ => True) c from rfl]
  iintro ⟨HΦ, Ho, ⟨%d0, H0⟩, ⟨%d1, H1⟩, ⟨%d2, H2⟩, ⟨%X7, H3⟩⟩
  rw [before_in m out _ 0 (by decide), before_in m out _ 1 (by decide), before_in m out _ 2 (by decide), fetched_0]
  iapply (point m (fun _ _ => True) c t (fun _ _ => trivial) ((dat m out (PhiG m fun _ _ => True) 0 c).fetched 1 t d1)
    ((dat m out (PhiG m fun _ _ => True) 0 c).fetched 2 t d2) X7)
  isplitl [HΦ]; · iexact HΦ
  isplitl [H0]; · iexact H0
  isplitl [H1]; · iexact H1
  isplitl [H2]; · iexact H2
  isplitl [H3]; · iexact H3
  iintro %X8 - ⟨HΦ, H0, H1, H2, H3⟩
  isplitl [HΦ]; · iexact HΦ
  isplitl [Ho]; · iexact Ho
  isplitl [H0]; · iexact H0
  isplitl [H1]; · iapply (leave_in m out (PhiG m fun _ _ => True) 1 (by decide) c t d1); iexact H1
  isplitl [H2]; · iapply (leave_in m out (PhiG m fun _ _ => True) 2 (by decide) c t d2); iexact H2
  · iexists _; iexact H3

/-- The output window is written at every point. -/
theorem idle_out (i) : (cfgM m).idle 3 i = false := by
  show idle0 (adm m 0).1 3 i = false
  have h (v : BitVec 32) : (!(k0_cond2 v == 1#1) && !(k0_cond3 v == 1#1)) = false := by
    by_cases h : k0_cond2 v = 1#1
    · simp [h]
    · simp [cond3_of_cond2 v h]
  exact h _

/-- The body obligation with the output block at `out`, which has to agree with what the body computes on the part of
    the block inside the array. -/
theorem body_value (good : Fin ((cfgM m).N + 1) → (S1024x4096.Idx → Elt F .bf16) → Prop) (c : Dev nD)
    (hg : ∀ t X8, good (Fin.castSucc t) X8 → good (Fin.succ t) (lhsv (grid0.coords t) (inBlk m c 0 t) X8))
    (ho : ∀ t d1 d2 X8, good (Fin.castSucc t) X8 →
      ((cfgM m).win 3).cut ((cfgM m).grid.coords t) (out t)
        = ((cfgM m).win 3).cut ((cfgM m).grid.coords t) (outv (grid0.coords t) (tb0 m) (tb1 m) (inBlk m c 0 t)
            ((dat m out (PhiG m good) 0 c).fetched 1 t d1) ((dat m out (PhiG m good) 0 c).fetched 2 t d2) X8)) :
    BodyObligationLoose (dat m out (PhiG m good) 0 c) (defs₀ (F := F)) 𝒱₀ () Set.univ := by
  intro t
  rw [bigSep_W0, bigSep_W0]
  simp only
  rw [show idle0 (tbl m) 3 ((pcfg0.gridAt (tbl m)).coords t) = false from idle_out m _]
  simp only
  rw [show (dat m out (PhiG m good) 0 c).Φ = PhiG m good c from rfl]
  iintro ⟨HΦ, Ho, ⟨%d0, H0⟩, ⟨%d1, H1⟩, ⟨%d2, H2⟩, ⟨%d3, H3⟩⟩
  rw [before_in m out _ 0 (by decide), before_in m out _ 1 (by decide), before_in m out _ 2 (by decide), fetched_0]
  iapply (point m good c t (hg t) ((dat m out (PhiG m good) 0 c).fetched 1 t d1)
    ((dat m out (PhiG m good) 0 c).fetched 2 t d2) ((dat m out (PhiG m good) 0 c).before 3 t d3))
  isplitl [HΦ]; · iexact HΦ
  isplitl [H0]; · iexact H0
  isplitl [H1]; · iexact H1
  isplitl [H2]; · iexact H2
  isplitl [H3]; · iexact H3
  iintro %X8 %h8 ⟨HΦ, H0, H1, H2, H3⟩
  isplitl [HΦ]; · iexact HΦ
  isplitl [Ho]; · iexact Ho
  isplitl [H0]; · iexact H0
  isplitl [H1]; · iapply (leave_in m out (PhiG m good) 1 (by decide) c t d1); iexact H1
  isplitl [H2]; · iapply (leave_in m out (PhiG m good) 2 (by decide) c t d2); iexact H2
  · iapply (leave_out m out (PhiG m good) c t _ (ho t d1 d2 X8 h8)); iexact H3

theorem hmain : Pipeline.HMainPK (Ix := Unit) (Name := ℕ) (U := UR sig nD τ) (Lvl := ℕ) (pcfgs (F := F)) 0 defs₀ 𝒱₀ m main
    (fun c b => V0 m c (Proc.devRef .tc b)) (fun _ => Pipeline.chain ([hostOps1 (F := F)].map StableHlo.seq)) := by
  refine Pipeline.hmainP_around (pcfgs (F := F)) 0 defs₀ 𝒱₀ m main before0 [hostOps1] ⟨hostOps0_sub, hostOps0_1_sub, hostOps0_2_sub⟩
    ?_ (fun c => main_chain c)
  simp only [before0, List.Forall]
  repeat' first | apply And.intro | rfl

theorem tail_sub (h : (hostOps1 (F := F)).Forall fun op => op.bufs ⊆ StableHlo.tcRefs τ sig) : ∀ ops ∈ [hostOps1 (F := F)], ∀ op ∈ ops, op.bufs ⊆ Pipeline.tailRefs (τ := τ) sig pre0 spec0 := by
  intro ops hops op hop
  obtain rfl := List.mem_singleton.1 hops
  obtain rfl := List.mem_singleton.1 hop
  refine Pipeline.sub_tailRefs pre0 spec0 _ h fun k => ?_
  exact match k with
  | ⟨0, _⟩ => fun h => by
    have h : Proc.devRef (τ := τ) .tc main_v12 ∈ ({Proc.devRef .tc main_v44, Proc.devRef .tc main_v45} : Finset (DevRef τ sig)) := h
    exact absurd h (by decide)
  | ⟨1, _⟩ => fun h => by
    have h : Proc.devRef (τ := τ) .tc main_v42 ∈ ({Proc.devRef .tc main_v44, Proc.devRef .tc main_v45} : Finset (DevRef τ sig)) := h
    exact absurd h (by decide)

theorem arg_entry (c : Dev nD) (b : Ref sig .tc) (hb : b ∈ ({main_arg0, main_arg1, main_arg2, main_arg3, main_arg4, main_arg5, main_arg6, main_arg7} : Finset (Ref sig .tc))) :
    V m c b = m ((c : Thread nD τ).loc b) := by
  refine StableHlo.after_of_forall_not_mem _ _ ?_
  intro op hop
  simp only [Finset.mem_insert, Finset.mem_singleton] at hb
  rcases hb with rfl | rfl | rfl | rfl | rfl | rfl | rfl | rfl <;>
  (fin_cases hop <;> exact fun h => absurd (Proc.devRef_injective _ (Finset.mem_singleton.mp h)) (by decide))

theorem keep_arr : ∀ w : Fin 4, Pipeline.arrRef spec0 w ≠ main_v45 := by decide
theorem arg_rest : ∀ b ∈ ({main_arg0, main_arg1, main_arg2, main_arg3, main_arg4, main_arg5, main_arg6, main_arg7} : Finset (Ref sig .tc)),
    b ≠ main_arg2 → b ∈ Pipeline.restRefs sig spec0 \ {main_v45} := by decide +kernel

theorem A_arg2 (PHI : Dev nD → Fin ((cfgM m).N + 1) → sProp 𝕄) (c : Dev nD) :
    ((dat m out PHI 0 c).toRForget fgt).A (1 : Fin 4) = V m c main_arg2 := rfl

/-- The frame: every run of `main` ends, the arguments as they began and every semaphore back at zero. -/
theorem frame_run (ρ : Dev nD → PrngReg) :
    θ_run (defs (F := F)) (onTc main) ⟨m, fun _ => 0, ρ⟩
      (fun r => (∀ c : Dev nD, ∀ b ∈ ({main_arg0, main_arg1, main_arg2, main_arg3, main_arg4, main_arg5, main_arg6, main_arg7} : Finset (Ref sig .tc)), r.2.mem ((c : Thread nD τ).loc b) = m ((c : Thread nD τ).loc b))
        ∧ r.2.sem = fun _ => 0) := by
  refine Pipeline.θ_run_frameP_around_T_track_forget (pcfgs (F := F)) (adm m) (dat m (fun _ _ => Classical.arbitrary _) (PhiG m fun _ _ => True)) 0 launch0 defs₀ 𝒱₀ fgt
    {main_v45} m ρ main (fun c => body_frame m _ c) ?_ (fun _ _ => rfl) (V0 m) [hostOps1] (tail_sub hostOps1_sub) ?_ ?_ ?_ (hmain m) (fun _ _ => rfl)
    (V_pre m) (fun c => PhiG_in m (fun _ _ => True) (fun _ => trivial) c) (fun c => PhiG_out m (fun _ _ => True) c (Fin.last _)) _ ?_
  · intro c w; fin_cases w <;> rfl
  · intro ops hops op hop
    obtain rfl := List.mem_singleton.1 hops
    obtain rfl := List.mem_singleton.1 hop
    rfl
  · intro ops hops op hop w
    obtain rfl := List.mem_singleton.1 hops
    obtain rfl := List.mem_singleton.1 hop
    exact fun h => keep_arr w (Proc.devRef_injective _ (Finset.mem_singleton.mp h))
  · intro ops hops op hop b hb
    obtain rfl := List.mem_singleton.1 hops
    obtain rfl := List.mem_singleton.1 hop
    exact Finset.mem_singleton.2 (Proc.devRef_injective _ (Finset.mem_singleton.mp hb))
  · rintro r ⟨h, hs⟩
    refine ⟨fun c b hb => ?_, hs⟩
    by_cases h2 : b = main_arg2
    · subst h2
      have e := Pipeline.RDat.FramePostR.arr_in h c (1 : Fin 4) rfl
      rw [A_arg2 m] at e
      exact e.trans (arg_entry m c main_arg2 hb)
    · refine ((h c).2 b ?_).trans (arg_entry m c b hb)
      exact arg_rest b hb h2

end Cert.KernelIdeal.Run
-- ==== Proof.BodyKernel.lean ====
/- The body of the kernel, run once at a symbolic grid point over any float values: from what the
   staging buffers, the two tables and the scratch buffers hold, to what they hold afterwards. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.Value
public import Idealize.ShloMosaic.Lib.Tactic

@[expose] public section

set_option maxRecDepth 16384

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

abbrev 𝒱₀ : Variants := Variants.none

/-- The word that says whether the point is the first of its row block. -/
def cond1 (i : grid0.Coords) : BitVec 1 :=
  Scalar.cmpi .ne (Scalar.extui (Scalar.cmpi .eq (BitVec.ofNat 32 (i 1).val) 0#32) : BitVec 32) 0#32

theorem hz2 : (![0, 0] : Fin 2 → Nat) = fun _ => 0 := funext fun a => by fin_cases a <;> rfl

/-- The two words of the first table, and the word of the second table at the point's column tile. -/
def word0 (X2 : S2.Idx → Elt F .i32) : Elt F .i32 :=
  View.ld X2 (Rect.unit (s := S2) ![0] S1.size inb_S2_S1_0) (Shape.Idx.first (by decide))
def word1 (X2 : S2.Idx → Elt F .i32) : Elt F .i32 :=
  View.ld X2 (Rect.unit (s := S2) ![1] S1.size inb_S2_S1_1) (Shape.Idx.first (by decide))
def tileWord (i : grid0.Coords) (X3 : S22.Idx → Elt F .i32) : Elt F .i32 :=
  View.ld X3 (Rect.unit (s := S22) (k0_off1 i) S1.size (k0_off1_inb i)) (Shape.Idx.first (s := S1) (by decide))
/-- The four parameter rows of the block. -/
def row0 (X6 : S8x512.Idx → Elt F .i32) : S1x512.Idx → Elt F .i32 := View.ld X6 (Rect.unit (s := S8x512) ![0, 0] S1x512.size inb_S8x512_S1x512_0_0)
def row1 (X6 : S8x512.Idx → Elt F .i32) : S1x512.Idx → Elt F .i32 := View.ld X6 (Rect.unit (s := S8x512) ![1, 0] S1x512.size inb_S8x512_S1x512_1_0)
def row2 (X6 : S8x512.Idx → Elt F .i32) : S1x512.Idx → Elt F .i32 := View.ld X6 (Rect.unit (s := S8x512) ![2, 0] S1x512.size inb_S8x512_S1x512_2_0)
def row3 (X6 : S8x512.Idx → Elt F .i32) : S1x512.Idx → Elt F .i32 := View.ld X6 (Rect.unit (s := S8x512) ![3, 0] S1x512.size inb_S8x512_S1x512_3_0)

/-- The column constants of the block. -/
def colv (X2 : S2.Idx → Elt F .i32) (X5 : S2048x512.Idx → Elt F .i8) (X6 : S8x512.Idx → Elt F .i32) : IVec S1x512 32 :=
  k0_pay2 (F := F) (word0 X2) (k0_pay22 (F := F) (row0 X6)) (k0_pay23 (F := F) (row1 X6)) (k0_pay27 (F := F) X5)
/-- The right factor of the product. -/
def rhsv (X5 : S2048x512.Idx → Elt F .i8) (X6 : S8x512.Idx → Elt F .i32) : FVec F S4096x512 .bf16 :=
  k0_pay1 (k0_pay28 (row1 X6) X5)
/-- The product the block's accumulator holds, from the left factor kept in scratch. -/
def accv (X5 : S2048x512.Idx → Elt F .i8) (X6 : S8x512.Idx → Elt F .i32) (X8 : S1024x4096.Idx → Elt F .bf16) : FVec F S1024x512 .f32 :=
  k0_pay3 X8 (rhsv X5 X6)
/-- The block stored where the tile's word is set, -/
def fastv (X2 : S2.Idx → Elt F .i32) (X6 : S8x512.Idx → Elt F .i32) (c2 : IVec S1x512 32) (acc : FVec F S1024x512 .f32) : IVec S1024x512 8 :=
  k0_pay4 (k0_pay6 (word1 X2) (k0_pay24 (F := F) (row2 X6)) (k0_pay25 (F := F) (row3 X6)) c2 acc)
/-- and the one stored where it is not. -/
def slowv (X2 : S2.Idx → Elt F .i32) (X6 : S8x512.Idx → Elt F .i32) (c2 : IVec S1x512 32) (acc : FVec F S1024x512 .f32) : IVec S1024x512 8 :=
  k0_pay5 (F := F) (word1 X2) (k0_pay25 (F := F) (row3 X6)) (k0_pay8 c2 acc) (k0_pay10 c2 acc) (k0_pay17 (k0_pay24 (F := F) (row2 X6)) c2 acc)
    (k0_pay18 (k0_pay24 (F := F) (row2 X6)) c2 acc) (k0_pay19 (k0_pay24 (F := F) (row2 X6)) c2 acc) k0_pay20

/-- What the left factor's scratch holds after the point: at the first column tile the block converted, else what it held. -/
def lhsv (i : grid0.Coords) (X4 : S1024x4096.Idx → Elt F .i8) (X8 : S1024x4096.Idx → Elt F .bf16) : S1024x4096.Idx → Elt F .bf16 :=
  if cond1 i = 1#1 then k0_pay21 X4 else X8
/-- What the point stores. -/
def outv (i : grid0.Coords) (X2 : S2.Idx → Elt F .i32) (X3 : S22.Idx → Elt F .i32) (X4 : S1024x4096.Idx → Elt F .i8)
    (X5 : S2048x512.Idx → Elt F .i8) (X6 : S8x512.Idx → Elt F .i32) (X8 : S1024x4096.Idx → Elt F .bf16) : S1024x512.Idx → Elt F .i8 :=
  if k0_cond2 (tileWord i X3) = 1#1 then fastv X2 X6 (colv X2 X5 X6) (accv X5 X6 (lhsv i X4 X8))
  else slowv X2 X6 (colv X2 X5 X6) (accv X5 X6 (lhsv i X4 X8))

/-- One of the two conditions holds, whatever the word. -/
theorem cond3_of_cond2 (v : BitVec 32) (h : ¬ k0_cond2 v = 1#1) : k0_cond3 v = 1#1 := by
  unfold k0_cond2 at h; unfold k0_cond3
  revert h; dsimp only; generalize (Scalar.cmpi .ne v 0#32 : BitVec 1) = b; revert b; decide
theorem not_cond3_of_cond2 (v : BitVec 32) (h : k0_cond2 v = 1#1) : ¬ k0_cond3 v = 1#1 := by
  unfold k0_cond2 at h; unfold k0_cond3
  revert h; dsimp only; generalize (Scalar.cmpi .ne v 0#32 : BitVec 1) = b; revert b; decide

/-- One store over a whole buffer leaves its payload. -/
theorem read_store {S : Shape} {sp : Space} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)
/-- A load of a whole buffer reads what it holds. -/
theorem read_load {S : Shape} {sp : Space} {e : EltTy} (v : View sig .tc sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

section Run
variable (c : Dev nD) (E : Set ℕ) (i : grid0.Coords) (q2 q3 : PosShare TreeShare)
    (arg2 : Memref sig .tc .smem S2 .i32) (harg2 : arg2.IsWhole) (arg3 : Memref sig .tc .smem S22 .i32) (harg3 : arg3.IsWhole)
    (arg4 : Memref sig .tc .vmem S1024x4096 .i8) (harg4 : arg4.IsWhole) (arg5 : Memref sig .tc .vmem S2048x512 .i8) (harg5 : arg5.IsWhole)
    (arg6 : Memref sig .tc .vmem S8x512 .i32) (harg6 : arg6.IsWhole) (arg7 : Memref sig .tc .vmem S1024x512 .i8) (harg7 : arg7.IsWhole)
    (arg8 : Memref sig .tc .vmem S1024x4096 .bf16) (harg8 : arg8.IsWhole) (arg9 : Memref sig .tc .vmem S4096x512 .bf16) (harg9 : arg9.IsWhole)
    (arg10 : Memref sig .tc .vmem S1024x512 .f32) (harg10 : arg10.IsWhole)

/-- What the body holds before a point: the tables (read only), the staging buffers and the scratch buffers. -/
def Held (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16) : sProp 𝕄 :=
  iprop(owns (c : Thread nD τ) arg2 q2 X2 ∗ owns (c : Thread nD τ) arg3 q3 X3
    ∗ owns (c : Thread nD τ) arg4 fullShare X4 ∗ owns (c : Thread nD τ) arg5 fullShare X5 ∗ owns (c : Thread nD τ) arg6 fullShare X6
    ∗ owns (c : Thread nD τ) arg7 fullShare X7 ∗ owns (c : Thread nD τ) arg8 fullShare X8
    ∗ (∃ f, arg9.view.loc (c : Thread nD τ) ↦[arg9.view.set]{fullShare} f) ∗ (∃ f, arg10.view.loc (c : Thread nD τ) ↦[arg10.view.set]{fullShare} f))

theorem run_first_fast (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : cond1 i = 1#1) (h2 : k0_cond2 (tileWord i X3) = 1#1) (h3 : ¬ k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = k0_pay21 X4 from if_pos h1]
  rw [show outv i X2 X3 X4 X5 X6 X8 = fastv X2 X6 (colv X2 X5 X6) (accv X5 X6 (k0_pay21 X4)) from by
    rw [outv, if_pos h2, lhsv, if_pos h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → k0_cond2 v = 1#1 := fun v e => e ▸ h2
  have h3' : ∀ v, v = tileWord i (arg3.view.read (Elt F) f3) → ¬ k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_first_fast.sl.r_9
    delta run_first_fast.sl.v59 run_first_fast.sl.H10_1 run_first_fast.sl.v45 run_first_fast.sl.v46 run_first_fast.sl.H9_1 run_first_fast.sl.H8_1
    delta run_first_fast.sl.r run_first_fast.sl.r_1 run_first_fast.sl.r_2 run_first_fast.sl.r_3 run_first_fast.sl.r_4 run_first_fast.sl.r_5 run_first_fast.sl.r_6 run_first_fast.sl.r_7
    rw [View.readCov_unit_zero _ hz2, View.readCov_unit_zero _ hz2, View.readCov_unit_zero _ hz2, read_load arg5.view f5 hz2, read_load arg4.view f4 hz2]
    rfl
  isplitl [H8]
  · iexists _; isplitr
    rotate_left
    · iexact H8
    ipureintro
    delta run_first_fast.sl.H8_1; rw [read_store _ _ hz2]; exact congrArg k0_pay21 (read_load _ _ hz2 _)
  isplitl [H9]
  · iexists _; iexact H9
  · iexists _; iexact H10

theorem run_first_slow (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : cond1 i = 1#1) (h2 : ¬ k0_cond2 (tileWord i X3) = 1#1) (h3 : k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = k0_pay21 X4 from if_pos h1]
  rw [show outv i X2 X3 X4 X5 X6 X8 = slowv X2 X6 (colv X2 X5 X6) (accv X5 X6 (k0_pay21 X4)) from by
    rw [outv, if_neg h2, lhsv, if_pos h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → ¬ k0_cond2 v = 1#1 := fun v e => e ▸ h2
  have h3' : ∀ v, v = tileWord i (arg3.view.read (Elt F) f3) → k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_first_slow.sl.r_9 run_first_slow.sl.r_10 run_first_slow.sl.r_11 run_first_slow.sl.r_12 run_first_slow.sl.r_13
    delta run_first_slow.sl.v59 run_first_slow.sl.H10_1 run_first_slow.sl.v45 run_first_slow.sl.v46 run_first_slow.sl.H9_1 run_first_slow.sl.H8_1
    delta run_first_slow.sl.r run_first_slow.sl.r_1 run_first_slow.sl.r_2 run_first_slow.sl.r_3 run_first_slow.sl.r_4 run_first_slow.sl.r_5 run_first_slow.sl.r_6 run_first_slow.sl.r_7
    rw [View.readCov_unit_zero _ hz2, View.readCov_unit_zero _ hz2, View.readCov_unit_zero _ hz2, read_load arg5.view f5 hz2, read_load arg4.view f4 hz2]
    rfl
  isplitl [H8]
  · iexists _; isplitr
    rotate_left
    · iexact H8
    ipureintro
    delta run_first_slow.sl.H8_1; rw [read_store _ _ hz2]; exact congrArg k0_pay21 (read_load _ _ hz2 _)
  isplitl [H9]
  · iexists _; iexact H9
  · iexists _; iexact H10

theorem run_later_fast (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : ¬ cond1 i = 1#1) (h2 : k0_cond2 (tileWord i X3) = 1#1) (h3 : ¬ k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = X8 from if_neg h1]
  rw [show outv i X2 X3 X4 X5 X6 X8 = fastv X2 X6 (colv X2 X5 X6) (accv X5 X6 X8) from by
    rw [outv, if_pos h2, lhsv, if_neg h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → k0_cond2 v = 1#1 := fun v e => e ▸ h2
  have h3' : ∀ v, v = tileWord i (arg3.view.read (Elt F) f3) → ¬ k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_later_fast.sl.r_9
    delta run_later_fast.sl.v59 run_later_fast.sl.H10_1 run_later_fast.sl.v46 run_later_fast.sl.H9_1
    delta run_later_fast.sl.r run_later_fast.sl.r_1 run_later_fast.sl.r_2 run_later_fast.sl.r_3 run_later_fast.sl.r_4 run_later_fast.sl.r_5 run_later_fast.sl.r_6 run_later_fast.sl.r_7
    rw [View.readCov_unit_zero _ hz2, View.readCov_unit_zero _ hz2, read_load arg5.view f5 hz2, read_load arg8.view f8 hz2]
    rfl
  isplitl [H8]
  · iexists _; isplitr
    rotate_left
    · iexact H8
    ipureintro
    rfl
  isplitl [H9]
  · iexists _; iexact H9
  · iexists _; iexact H10

theorem run_later_slow (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16)
    (h1 : ¬ cond1 i = 1#1) (h2 : ¬ k0_cond2 (tileWord i X3) = 1#1) (h3 : k0_cond3 (tileWord i X3) = 1#1)
    (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  sl_unfold [cc0_gemm_u8_u4_requant]
  rw [show lhsv i X4 X8 = X8 from if_neg h1]
  rw [show outv i X2 X3 X4 X5 X6 X8 = slowv X2 X6 (colv X2 X5 X6) (accv X5 X6 X8) from by
    rw [outv, if_neg h2, lhsv, if_neg h1]]
  simp only [Held, owns]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, H9⟩, ⟨%f10, H10⟩⟩, Hk⟩
  subst hf2 hf3 hf4 hf5 hf6 hf7 hf8
  have h2' : ∀ v, v = tileWord i (arg3.view.read (Elt F) f3) → ¬ k0_cond2 v = 1#1 := fun v e => e ▸ h2
  have h3' : ∀ v, v = tileWord i (arg3.view.read (Elt F) f3) → k0_cond3 v = 1#1 := fun v e => e ▸ h3
  sl_exec (disch := first | exact h1 | exact h2' _ rfl | exact h3' _ rfl)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    rotate_left
    · iexact H7
    ipureintro
    rw [read_store _ _ hz2]
    delta run_later_slow.sl.r_9 run_later_slow.sl.r_10 run_later_slow.sl.r_11 run_later_slow.sl.r_12 run_later_slow.sl.r_13
    delta run_later_slow.sl.v59 run_later_slow.sl.H10_1 run_later_slow.sl.v46 run_later_slow.sl.H9_1
    delta run_later_slow.sl.r run_later_slow.sl.r_1 run_later_slow.sl.r_2 run_later_slow.sl.r_3 run_later_slow.sl.r_4 run_later_slow.sl.r_5 run_later_slow.sl.r_6 run_later_slow.sl.r_7
    rw [View.readCov_unit_zero _ hz2, View.readCov_unit_zero _ hz2, read_load arg5.view f5 hz2, read_load arg8.view f8 hz2]
    rfl
  isplitl [H8]
  · iexists _; isplitr
    rotate_left
    · iexact H8
    ipureintro
    rfl
  isplitl [H9]
  · iexists _; iexact H9
  · iexists _; iexact H10

/-- THE BODY at any point, from any contents: the block and the scratch left factor it leaves are `outv` and `lhsv` of what it found. -/
theorem run_body (X2 : S2.Idx → Elt F .i32) (X3 : S22.Idx → Elt F .i32) (X4 : S1024x4096.Idx → Elt F .i8) (X5 : S2048x512.Idx → Elt F .i8)
    (X6 : S8x512.Idx → Elt F .i32) (X7 : S1024x512.Idx → Elt F .i8) (X8 : S1024x4096.Idx → Elt F .bf16) (K : PUnit → sProp 𝕄) :
    iprop(Held c q2 q3 arg2 arg3 arg4 arg5 arg6 arg7 arg8 arg9 arg10 X2 X3 X4 X5 X6 X7 X8
        ∗ (Held c q2 q3 arg2 arg3 arg4 arg5 arg6 arg7 arg8 arg9 arg10 X2 X3 X4 X5 X6 (outv i X2 X3 X4 X5 X6 X8) (lhsv i X4 X8) -∗ K ⟨⟩))
      ⊢ wp frame (wpE (defs₀ (F := F)) 𝒱₀ c none) E
          (cc0_gemm_u8_u4_requant i arg2 harg2 arg3 harg3 arg4 harg4 arg5 harg5 arg6 harg6 arg7 harg7 arg8 harg8 arg9 harg9 arg10 harg10) K := by
  by_cases h1 : cond1 i = 1#1 <;> by_cases h2 : k0_cond2 (tileWord i X3) = 1#1
  · exact run_first_fast c E i q2 q3 arg2 harg2 arg3 harg3 arg4 harg4 arg5 harg5 arg6 harg6 arg7 harg7 arg8 harg8 arg9 harg9 arg10 harg10 X2 X3 X4 X5 X6 X7 X8 h1 h2 (not_cond3_of_cond2 _ h2) K
  · exact run_first_slow c E i q2 q3 arg2 harg2 arg3 harg3 arg4 harg4 arg5 harg5 arg6 harg6 arg7 harg7 arg8 harg8 arg9 harg9 arg10 harg10 X2 X3 X4 X5 X6 X7 X8 h1 h2 (cond3_of_cond2 _ h2) K
  · exact run_later_fast c E i q2 q3 arg2 harg2 arg3 harg3 arg4 harg4 arg5 harg5 arg6 harg6 arg7 harg7 arg8 harg8 arg9 harg9 arg10 harg10 X2 X3 X4 X5 X6 X7 X8 h1 h2 (not_cond3_of_cond2 _ h2) K
  · exact run_later_slow c E i q2 q3 arg2 harg2 arg3 harg3 arg4 harg4 arg5 harg5 arg6 harg6 arg7 harg7 arg8 harg8 arg9 harg9 arg10 harg10 X2 X3 X4 X5 X6 X7 X8 h1 h2 (cond3_of_cond2 _ h2) K

end Run

end Cert.Kernel.Body
-- ==== Proof.RunKernel.lean ====
/- The launch of the kernel: the contents its region is entered at, the two prefetched tables, the proof
   data of its one pipeline, what the input windows hold at a point, and the frame — every argument array
   ends unchanged and every semaphore is back at zero —, over any float values. -/
module

public import proofs.«01_k».proof.Proof.BodyKernel
public import Idealize.ShloMosaic.Lib.Pipeline.FrameSuffix
public import Idealize.ShloMosaic.Lib.Pipeline.ClipFacts

@[expose] public section

set_option maxRecDepth 16384

noncomputable section

namespace Cert.Kernel.Run

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region. -/
abbrev before0 : List (List (HloOp τ sig (Elt F))) := [hostOps0, hostOps0_1, hostOps0_2]
/-- Device `c`'s buffers when the region is entered, -/
def V0 (c : Dev nD) : Valuation τ sig (Elt F) := StableHlo.after (before0 (F := F)).flatten (fun b => m (c, b))
/-- reference by reference. -/
def V (c : Dev nD) (b : Ref sig .tc) : Buf (Elt F) ((c : Thread nD τ).loc b) := V0 m c (Proc.devRef .tc b)

/-- The two tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No index map reads a table, so the pipeline's side condition is trivial. -/
abbrev adm : (p : Fin 1) → (pcfgs (F := F) p).Adm := fun _ => ⟨tbl m, trivial⟩
abbrev cfgM : Cfg sig Λ₀ := cfg0 (adm m 0)

abbrev tbM0 : Memref sig .tc .smem S2 .i32 := Memref.whole main_v12
abbrev tbM1 : Memref sig .tc .smem S22 .i32 := Memref.whole main_v42

/-- The tables' contents at the types the body reads them at. -/
def tb0 : S2.Idx → Elt F .i32 := V m (0 : Dev nD) main_v12
def tb1 : S22.Idx → Elt F .i32 := V m (0 : Dev nD) main_v42

/-- The tables' halves the body is handed, table by table. -/
theorem PhiT_eq (c : Dev nD) : (Pipeline.ΦT pre0 (tbl m) c : sProp 𝕄)
    = iprop(owns (c : Thread nD τ) tbM0 fullShare.right (tb0 m) ∗ owns (c : Thread nD τ) tbM1 fullShare.right (tb1 m)) := by
  rw [show (owns (c : Thread nD τ) tbM0 fullShare.right (tb0 m) : sProp 𝕄) = _ from owns_whole (c : Thread nD τ) main_v12 fullShare.right (tb0 m),
    show (owns (c : Thread nD τ) tbM1 fullShare.right (tb1 m) : sProp 𝕄) = _ from owns_whole (c : Thread nD τ) main_v42 fullShare.right (tb1 m)]
  unfold Pipeline.ΦT Pipeline.prefHeld
  rw [show (Finset.univ : Finset (Fin 2)) = insert (0 : Fin 2) {(1 : Fin 2)} from by decide, bigSep_insert (by decide), bigSep_singleton]
  rfl

/-- What the body leaves an input window's buffer at: its block, filled out where the block is cut. -/
def inBlk (c : Dev nD) (w : Fin 4) (t : Fin (cfgM m).N) : ((cfgM m).win w).block.Idx → Elt F ((cfgM m).win w).elt :=
  ((cfgM m).win w).fill ((cfgM m).grid.coords t) (fun _ => Classical.arbitrary _) (((cfgM m).win w).blk t |>.view.read (Elt F) (V m c (Pipeline.arrRef spec0 w)))

/-- The proof data of the pipeline: the arrays as the region finds them; the inputs left as their blocks, the output
    block at `out`; the invariant `Φ`. -/
def dat (out : Fin (cfgM m).N → S1024x512.Idx → Elt F .i8) (Φ : Dev nD → Fin ((cfgM m).N + 1) → sProp 𝕄) (_ : Fin 1) (c : Dev nD) :
    Dat τ (Elt F) Unit ℕ (UR sig nD τ) ℕ (cfgM m) c where
  A w := V m c (Pipeline.arrRef spec0 w)
  after w t := match w with
    | ⟨0, _⟩ => inBlk m c 0 t
    | ⟨1, _⟩ => inBlk m c 1 t
    | ⟨2, _⟩ => inBlk m c 2 t
    | ⟨3, _⟩ => out t
  Φ t := Φ c t
  q _ := fullShare
  owed _ := 0

variable (out : Fin (cfgM m).N → S1024x512.Idx → Elt F .i8)

theorem isOut_in (w : Fin 4) (h : w ≠ 3) : ((cfgM m).win w).isOut = false := by
  fin_cases w <;> first | rfl | exact absurd rfl h
theorem idle_in (w : Fin 4) (h : w ≠ 3) (i) : (cfgM m).idle w i = false := by
  fin_cases w <;> first | rfl | exact absurd rfl h
theorem after_in (PHI : Dev nD → Fin ((cfgM m).N + 1) → sProp 𝕄) (w : Fin 4) (h : w ≠ 3) (c : Dev nD) (t) : (dat m out PHI 0 c).after w t = inBlk m c w t := by
  fin_cases w <;> first | rfl | exact absurd rfl h

/-- Blocks at one index are cut alike. -/
theorem clip_in (w : Fin 4) (h : w ≠ 3) (t t' : Fin (cfgM m).N) (e : ((cfgM m).win w).index t = ((cfgM m).win w).index t') :
    ((cfgM m).win w).clip ((cfgM m).grid.coords t) = ((cfgM m).win w).clip ((cfgM m).grid.coords t') := by
  match w, h, e with
  | ⟨0, _⟩, _, _ => rfl
  | ⟨1, _⟩, _, e => exact funext fun a => congrArg (fun ix : Fin 2 → Nat => Pipeline.Clip.of (ix a) (S2048x512.size a) (S2048x11008.size a)) e
  | ⟨2, _⟩, _, e => exact funext fun a => congrArg (fun ix : Fin 2 → Nat => Pipeline.Clip.of (ix a) (S8x512.size a) (S8x11008.size a)) e
  | ⟨3, _⟩, h, _ => exact absurd rfl h

/-- An input window's buffer holds, at every point, what a fetch there puts in it. -/
theorem before_in (PHI : Dev nD → Fin ((cfgM m).N + 1) → sProp 𝕄) (w : Fin 4) (h : w ≠ 3) (c : Dev nD) (t d) :
    (dat m out PHI 0 c).before w t d = (dat m out PHI 0 c).fetched w t d := by
  refine Dat.before_in_eq_fetched (dat m out PHI 0 c) w (isOut_in m w h) (idle_in m w h) (clip_in m w h) (fun t => ?_) t d
  rw [after_in m out PHI w h]
  exact Window.cut_fill _ _ _ _

theorem defs₀_row (t : Fin (cfgM m).N) : defs₀ (F := F) .tc (cfgM m).body ((cfgM m).bodyArgs t ((cfgM m).slots t))
    = cc0_gemm_u8_u4_requant (grid0.coords t) tbM0 (Memref.isWhole_whole _) tbM1 (Memref.isWhole_whole _)
        (((cfgM m).win 0).stage ((cfgM m).slots t 0)) (stage_whole0 0 _) (((cfgM m).win 1).stage ((cfgM m).slots t 1)) (stage_whole0 1 _)
        (((cfgM m).win 2).stage ((cfgM m).slots t 2)) (stage_whole0 2 _) (((cfgM m).win 3).stage ((cfgM m).slots t 3)) (stage_whole0 3 _)
        (Memref.whole cc0_scratch0) (Memref.isWhole_whole _) (Memref.whole cc0_scratch1) (Memref.isWhole_whole _)
        (Memref.whole cc0_scratch2) (Memref.isWhole_whole _) := by
  unfold defs₀; rw [Defs.onTc_tc]; rfl

/-- The windows whose contents the frame says nothing of: the output. -/
abbrev fgt : Fin 4 → Bool := fun | 0 => false | 1 => false | 2 => false | 3 => true | ⟨_ + 4, h⟩ => absurd h (Nat.not_lt.2 (Nat.le_add_left _ _))

theorem whole_pt (c : Dev nD) (b : Ref sig .tc) (f : Buf (Elt F) ((c : Thread nD τ).loc b)) :
    ((Memref.whole b).view.loc (c : Thread nD τ) ↦[(Memref.whole b).view.set]{fullShare} f : sProp 𝕄)
      = ((c : Thread nD τ).loc b ↦{fullShare} f) := by
  simp only [View.set_whole]

/-- An input's block filled over anything, cut and filled again over the same, is itself. -/
theorem refill_in (PHI : Dev nD → Fin ((cfgM m).N + 1) → sProp 𝕄) (w : Fin 4) (c : Dev nD) (t : Fin (cfgM m).N) (d) :
    ((cfgM m).win w).fill ((cfgM m).grid.coords t) d (((cfgM m).win w).cut ((cfgM m).grid.coords t) (inBlk m c w t))
      = (dat m out PHI 0 c).fetched w t d :=
  congrArg (((cfgM m).win w).fill ((cfgM m).grid.coords t) d) (Window.cut_fill _ _ _ _)

/-- A window whose blocks are never cut holds the whole block, whatever was there. -/
theorem fetched_0 (PHI : Dev nD → Fin ((cfgM m).N + 1) → sProp 𝕄) (c : Dev nD) (t : Fin (cfgM m).N) (d) :
    (dat m out PHI 0 c).fetched (0 : Fin 4) t d = inBlk m c 0 t :=
  Dat.fetched_of_clip_none (dat m out PHI 0 c) (0 : Fin 4) t (fun _ => rfl) d (fun _ => Classical.arbitrary _)

/-- The region's invariant: the tables, the generator, and the scratch buffers, the first one holding contents that are
    `good` at the point. -/
def PhiG (good : Fin ((cfgM m).N + 1) → (S1024x4096.Idx → Elt F .bf16) → Prop) (c : Dev nD) (t : Fin ((cfgM m).N + 1)) : sProp 𝕄 :=
  iprop((owns (c : Thread nD τ) tbM0 fullShare.right (tb0 m) ∗ owns (c : Thread nD τ) tbM1 fullShare.right (tb1 m))
    ∗ (∃ r, prngReg c r)
    ∗ (∃ X8, ⌜good t X8⌝ ∗ owns (c : Thread nD τ) (Memref.whole cc0_scratch0) fullShare X8)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f))

theorem PhiG_in (good : Fin ((cfgM m).N + 1) → (S1024x4096.Idx → Elt F .bf16) → Prop) (h0 : ∀ X8, good 0 X8) (c : Dev nD) :
    iprop(Pipeline.ΦA spec0 c ∗ Pipeline.ΦT pre0 (tbl m) c) ⊢ PhiG m good c 0 := by
  rw [PhiT_eq]
  unfold Pipeline.ΦA PhiG
  rw [scopedRest0_eq]
  iintro ⟨⟨⟨⟨%f8, H8⟩, H9, H10⟩, Hr⟩, Ht⟩
  isplitl [Ht]; · iexact Ht
  isplitl [Hr]; · iexact Hr
  isplitl [H8]
  · iexists f8; isplitr; · ipureintro; exact h0 f8
    rw [owns_whole]; iexact H8
  isplitl [H9]
  · icases H9 with ⟨%f, H⟩; iexists f; rw [whole_pt]; iexact H
  · icases H10 with ⟨%f, H⟩; iexists f; rw [whole_pt]; iexact H

theorem PhiG_out (good : Fin ((cfgM m).N + 1) → (S1024x4096.Idx → Elt F .bf16) → Prop) (c : Dev nD) (t) :
    PhiG m good c t ⊢ Pipeline.ΦA spec0 c := by
  unfold Pipeline.ΦA PhiG
  rw [scopedRest0_eq]
  iintro ⟨-, Hr, ⟨%X8, -, H8⟩, ⟨%f9, H9⟩, ⟨%f10, H10⟩⟩
  isplitr [Hr]
  · isplitl [H8]; · iexists X8; rw [owns_whole]; exact Entails.refl _
    isplitl [H9]
    · iexists f9; rw [whole_pt]; exact Entails.refl _
    · iexists f10; rw [whole_pt]; exact Entails.refl _
  · iexact Hr

/-- The body at a point, whatever the clipped buffers hold beyond their blocks: the inputs and the tables come back as
    they were, the output block holds `outv` of what was read, and the first scratch buffer is good for the next point. -/
theorem point (good : Fin ((cfgM m).N + 1) → (S1024x4096.Idx → Elt F .bf16) → Prop) (c : Dev nD) (t : Fin (cfgM m).N)
    (hg : ∀ X8, good t.castSucc X8 → good t.succ (lhsv (grid0.coords t) (inBlk m c 0 t) X8))
    (X5 : S2048x512.Idx → Elt F .i8) (X6 : S8x512.Idx → Elt F .i32) (X7 : S1024x512.Idx → Elt F .i8) (K : PUnit → sProp 𝕄) :
    iprop(PhiG m good c t.castSucc
      ∗ owns (c : Thread nD τ) (((cfgM m).win 0).stage ((cfgM m).slots t 0)) fullShare (inBlk m c 0 t)
      ∗ owns (c : Thread nD τ) (((cfgM m).win 1).stage ((cfgM m).slots t 1)) fullShare X5
      ∗ owns (c : Thread nD τ) (((cfgM m).win 2).stage ((cfgM m).slots t 2)) fullShare X6
      ∗ owns (c : Thread nD τ) (((cfgM m).win 3).stage ((cfgM m).slots t 3)) fullShare X7
      ∗ (∀ X8, ⌜good t.castSucc X8⌝ -∗ (PhiG m good c t.succ
          ∗ owns (c : Thread nD τ) (((cfgM m).win 0).stage ((cfgM m).slots t 0)) fullShare (inBlk m c 0 t)
          ∗ owns (c : Thread nD τ) (((cfgM m).win 1).stage ((cfgM m).slots t 1)) fullShare X5
          ∗ owns (c : Thread nD τ) (((cfgM m).win 2).stage ((cfgM m).slots t 2)) fullShare X6
          ∗ owns (c : Thread nD τ) (((cfgM m).win 3).stage ((cfgM m).slots t 3)) fullShare
              (outv (grid0.coords t) (tb0 m) (tb1 m) (inBlk m c 0 t) X5 X6 X8)) -∗ K ⟨⟩))
      ⊢ wp frame (wpE (defs₀ (F := F)) 𝒱₀ c none) Set.univ (defs₀ (F := F) .tc (cfgM m).body ((cfgM m).bodyArgs t ((cfgM m).slots t))) K := by
  rw [defs₀_row]
  unfold PhiG
  iintro ⟨⟨⟨H2, H3⟩, Hr, ⟨%X8, %h8, H8⟩, H9, H10⟩, H4, H5, H6, H7, HK⟩
  iapply (run_body c Set.univ (grid0.coords t) fullShare.right fullShare.right tbM0 (Memref.isWhole_whole _) tbM1 (Memref.isWhole_whole _)
        (((cfgM m).win 0).stage ((cfgM m).slots t 0)) (stage_whole0 0 _) (((cfgM m).win 1).stage ((cfgM m).slots t 1)) (stage_whole0 1 _)
        (((cfgM m).win 2).stage ((cfgM m).slots t 2)) (stage_whole0 2 _) (((cfgM m).win 3).stage ((cfgM m).slots t 3)) (stage_whole0 3 _)
        (Memref.whole cc0_scratch0) (Memref.isWhole_whole _) (Memref.whole cc0_scratch1) (Memref.isWhole_whole _)
        (Memref.whole cc0_scratch2) (Memref.isWhole_whole _) (tb0 m) (tb1 m) (inBlk m c 0 t) X5 X6 X7 X8 K)
  unfold Held
  isplitr [Hr HK]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨H2, H3, H4, H5, H6, H7, H8, H9, H10⟩
    iapply HK $$ %X8 %h8
    isplitl [H2 H3 Hr H8 H9 H10]
    · isplitl [H2 H3]
      · isplitl [H2]; · iexact H2
        iexact H3
      isplitl [Hr]; · iexact Hr
      isplitl [H8]
      · iexists _; isplitr; · ipureintro; exact hg X8 h8
        iexact H8
      isplitl [H9]; · iexact H9
      iexact H10
    isplitl [H4]; · iexact H4
    isplitl [H5]; · iexact H5
    isplitl [H6]; · iexact H6
    iexact H7

end Cert.Kernel.Run
-- ==== Proof.FrameKernel.lean ====
/- The launch of the kernel: the body obligation, with the output block's contents unnamed and named; and the frame —
   every argument array ends unchanged and every semaphore is back at zero —, over any float values. -/
module

public import proofs.«01_k».proof.Proof.RunKernel

@[expose] public section

set_option maxRecDepth 16384

noncomputable section

namespace Cert.Kernel.Run

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)
variable (out : Fin (cfgM m).N → S1024x512.Idx → Elt F .i8)

/-- An input's buffer, as the body hands it back. -/
theorem leave_in (PHI : Dev nD → Fin ((cfgM m).N + 1) → sProp 𝕄) (w : Fin 4) (h : w ≠ 3) (c : Dev nD) (t : Fin (cfgM m).N) (d) :
    (owns (c : Thread nD τ) (((cfgM m).win w).stage ((cfgM m).slots t w)) fullShare ((dat m out PHI 0 c).fetched w t d) : sProp 𝕄)
      ⊢ ∃ d', owns (c : Thread nD τ) (((cfgM m).win w).stage ((cfgM m).slots t w)) fullShare
          (((cfgM m).win w).fill ((cfgM m).grid.coords t) d' (((cfgM m).win w).cut ((cfgM m).grid.coords t) ((dat m out PHI 0 c).after w t))) := by
  iintro H
  iexists d
  rw [after_in m out PHI w h, refill_in m out PHI w c t d]
  iexact H

/-- The output's buffer, as the body hands it back: what matters is the part inside the array. -/
theorem leave_out (PHI : Dev nD → Fin ((cfgM m).N + 1) → sProp 𝕄) (c : Dev nD) (t : Fin (cfgM m).N)
    (Y : ((cfgM m).win 3).block.Idx → Elt F ((cfgM m).win 3).elt)
    (h : ((cfgM m).win 3).cut ((cfgM m).grid.coords t) (out t) = ((cfgM m).win 3).cut ((cfgM m).grid.coords t) Y) :
    (owns (c : Thread nD τ) (((cfgM m).win 3).stage ((cfgM m).slots t 3)) fullShare Y : sProp 𝕄)
      ⊢ ∃ d', owns (c : Thread nD τ) (((cfgM m).win 3).stage ((cfgM m).slots t 3)) fullShare
          (((cfgM m).win 3).fill ((cfgM m).grid.coords t) d' (((cfgM m).win 3).cut ((cfgM m).grid.coords t) ((dat m out PHI 0 c).after 3 t))) := by
  iintro H
  iexists Y
  rw [show (dat m out PHI 0 c).after 3 t = out t from rfl, h, Window.fill_cut]
  iexact H

/-- The body obligation of the frame, the output block's contents unnamed. -/
theorem body_frame (c : Dev nD) :
    BodyObligationLoose (dat m out (PhiG m fun _ _ => True) 0 c) (defs₀ (F := F)) 𝒱₀ () Set.univ fgt := by
  intro t
  rw [bigSep_W0, bigSep_W0]
  simp only
  rw [show (dat m out (PhiG m fun _ _ => True) 0 c).Φ = PhiG m (fun _ _ => True) c from rfl]
  iintro ⟨HΦ, Ho, ⟨%d0, H0⟩, ⟨%d1, H1⟩, ⟨%d2, H2⟩, ⟨%X7, H3⟩⟩
  rw [before_in m out _ 0 (by decide), before_in m out _ 1 (by decide), before_in m out _ 2 (by decide), fetched_0]
  iapply (point m (fun _ _ => True) c t (fun _ _ => trivial) ((dat m out (PhiG m fun _ _ => True) 0 c).fetched 1 t d1)
    ((dat m out (PhiG m fun _ _ => True) 0 c).fetched 2 t d2) X7)
  isplitl [HΦ]; · iexact HΦ
  isplitl [H0]; · iexact H0
  isplitl [H1]; · iexact H1
  isplitl [H2]; · iexact H2
  isplitl [H3]; · iexact H3
  iintro %X8 - ⟨HΦ, H0, H1, H2, H3⟩
  isplitl [HΦ]; · iexact HΦ
  isplitl [Ho]; · iexact Ho
  isplitl [H0]; · iexact H0
  isplitl [H1]; · iapply (leave_in m out (PhiG m fun _ _ => True) 1 (by decide) c t d1); iexact H1
  isplitl [H2]; · iapply (leave_in m out (PhiG m fun _ _ => True) 2 (by decide) c t d2); iexact H2
  · iexists _; iexact H3

/-- The output window is written at every point. -/
theorem idle_out (i) : (cfgM m).idle 3 i = false := by
  show idle0 (adm m 0).1 3 i = false
  have h (v : BitVec 32) : (!(k0_cond2 v == 1#1) && !(k0_cond3 v == 1#1)) = false := by
    by_cases h : k0_cond2 v = 1#1
    · simp [h]
    · simp [cond3_of_cond2 v h]
  exact h _

/-- The body obligation with the output block at `out`, which has to agree with what the body computes on the part of
    the block inside the array. -/
theorem body_value (good : Fin ((cfgM m).N + 1) → (S1024x4096.Idx → Elt F .bf16) → Prop) (c : Dev nD)
    (hg : ∀ t X8, good (Fin.castSucc t) X8 → good (Fin.succ t) (lhsv (grid0.coords t) (inBlk m c 0 t) X8))
    (ho : ∀ t d1 d2 X8, good (Fin.castSucc t) X8 →
      ((cfgM m).win 3).cut ((cfgM m).grid.coords t) (out t)
        = ((cfgM m).win 3).cut ((cfgM m).grid.coords t) (outv (grid0.coords t) (tb0 m) (tb1 m) (inBlk m c 0 t)
            ((dat m out (PhiG m good) 0 c).fetched 1 t d1) ((dat m out (PhiG m good) 0 c).fetched 2 t d2) X8)) :
    BodyObligationLoose (dat m out (PhiG m good) 0 c) (defs₀ (F := F)) 𝒱₀ () Set.univ := by
  intro t
  rw [bigSep_W0, bigSep_W0]
  simp only
  rw [show idle0 (tbl m) 3 ((pcfg0.gridAt (tbl m)).coords t) = false from idle_out m _]
  simp only
  rw [show (dat m out (PhiG m good) 0 c).Φ = PhiG m good c from rfl]
  iintro ⟨HΦ, Ho, ⟨%d0, H0⟩, ⟨%d1, H1⟩, ⟨%d2, H2⟩, ⟨%d3, H3⟩⟩
  rw [before_in m out _ 0 (by decide), before_in m out _ 1 (by decide), before_in m out _ 2 (by decide), fetched_0]
  iapply (point m good c t (hg t) ((dat m out (PhiG m good) 0 c).fetched 1 t d1)
    ((dat m out (PhiG m good) 0 c).fetched 2 t d2) ((dat m out (PhiG m good) 0 c).before 3 t d3))
  isplitl [HΦ]; · iexact HΦ
  isplitl [H0]; · iexact H0
  isplitl [H1]; · iexact H1
  isplitl [H2]; · iexact H2
  isplitl [H3]; · iexact H3
  iintro %X8 %h8 ⟨HΦ, H0, H1, H2, H3⟩
  isplitl [HΦ]; · iexact HΦ
  isplitl [Ho]; · iexact Ho
  isplitl [H0]; · iexact H0
  isplitl [H1]; · iapply (leave_in m out (PhiG m good) 1 (by decide) c t d1); iexact H1
  isplitl [H2]; · iapply (leave_in m out (PhiG m good) 2 (by decide) c t d2); iexact H2
  · iapply (leave_out m out (PhiG m good) c t _ (ho t d1 d2 X8 h8)); iexact H3

theorem hmain : Pipeline.HMainPK (Ix := Unit) (Name := ℕ) (U := UR sig nD τ) (Lvl := ℕ) (pcfgs (F := F)) 0 defs₀ 𝒱₀ m main
    (fun c b => V0 m c (Proc.devRef .tc b)) (fun _ => Pipeline.chain ([hostOps1 (F := F)].map StableHlo.seq)) := by
  refine Pipeline.hmainP_around (pcfgs (F := F)) 0 defs₀ 𝒱₀ m main before0 [hostOps1] ⟨hostOps0_sub, hostOps0_1_sub, hostOps0_2_sub⟩
    ?_ (fun c => main_chain c)
  simp only [before0, List.Forall]
  repeat' first | apply And.intro | rfl

theorem tail_sub (h : (hostOps1 (F := F)).Forall fun op => op.bufs ⊆ StableHlo.tcRefs τ sig) : ∀ ops ∈ [hostOps1 (F := F)], ∀ op ∈ ops, op.bufs ⊆ Pipeline.tailRefs (τ := τ) sig pre0 spec0 := by
  intro ops hops op hop
  obtain rfl := List.mem_singleton.1 hops
  obtain rfl := List.mem_singleton.1 hop
  refine Pipeline.sub_tailRefs pre0 spec0 _ h fun k => ?_
  exact match k with
  | ⟨0, _⟩ => fun h => by
    have h : Proc.devRef (τ := τ) .tc main_v12 ∈ ({Proc.devRef .tc main_v44, Proc.devRef .tc main_v45} : Finset (DevRef τ sig)) := h
    exact absurd h (by decide)
  | ⟨1, _⟩ => fun h => by
    have h : Proc.devRef (τ := τ) .tc main_v42 ∈ ({Proc.devRef .tc main_v44, Proc.devRef .tc main_v45} : Finset (DevRef τ sig)) := h
    exact absurd h (by decide)

theorem arg_entry (c : Dev nD) (b : Ref sig .tc) (hb : b ∈ ({main_arg0, main_arg1, main_arg2, main_arg3, main_arg4, main_arg5, main_arg6, main_arg7} : Finset (Ref sig .tc))) :
    V m c b = m ((c : Thread nD τ).loc b) := by
  refine StableHlo.after_of_forall_not_mem _ _ ?_
  intro op hop
  simp only [Finset.mem_insert, Finset.mem_singleton] at hb
  rcases hb with rfl | rfl | rfl | rfl | rfl | rfl | rfl | rfl <;>
  (fin_cases hop <;> exact fun h => absurd (Proc.devRef_injective _ (Finset.mem_singleton.mp h)) (by decide))

theorem keep_arr : ∀ w : Fin 4, Pipeline.arrRef spec0 w ≠ main_v45 := by decide
theorem arg_rest : ∀ b ∈ ({main_arg0, main_arg1, main_arg2, main_arg3, main_arg4, main_arg5, main_arg6, main_arg7} : Finset (Ref sig .tc)),
    b ≠ main_arg2 → b ∈ Pipeline.restRefs sig spec0 \ {main_v45} := by decide +kernel

theorem A_arg2 (PHI : Dev nD → Fin ((cfgM m).N + 1) → sProp 𝕄) (c : Dev nD) :
    ((dat m out PHI 0 c).toRForget fgt).A (1 : Fin 4) = V m c main_arg2 := rfl

/-- The frame: every run of `main` ends, the arguments as they began and every semaphore back at zero. -/
theorem frame_run (ρ : Dev nD → PrngReg) :
    θ_run (defs (F := F)) (onTc main) ⟨m, fun _ => 0, ρ⟩
      (fun r => (∀ c : Dev nD, ∀ b ∈ ({main_arg0, main_arg1, main_arg2, main_arg3, main_arg4, main_arg5, main_arg6, main_arg7} : Finset (Ref sig .tc)), r.2.mem ((c : Thread nD τ).loc b) = m ((c : Thread nD τ).loc b))
        ∧ r.2.sem = fun _ => 0) := by
  refine Pipeline.θ_run_frameP_around_T_track_forget (pcfgs (F := F)) (adm m) (dat m (fun _ _ => Classical.arbitrary _) (PhiG m fun _ _ => True)) 0 launch0 defs₀ 𝒱₀ fgt
    {main_v45} m ρ main (fun c => body_frame m _ c) ?_ (fun _ _ => rfl) (V0 m) [hostOps1] (tail_sub hostOps1_sub) ?_ ?_ ?_ (hmain m) (fun _ _ => rfl)
    (V_pre m) (fun c => PhiG_in m (fun _ _ => True) (fun _ => trivial) c) (fun c => PhiG_out m (fun _ _ => True) c (Fin.last _)) _ ?_
  · intro c w; fin_cases w <;> rfl
  · intro ops hops op hop
    obtain rfl := List.mem_singleton.1 hops
    obtain rfl := List.mem_singleton.1 hop
    rfl
  · intro ops hops op hop w
    obtain rfl := List.mem_singleton.1 hops
    obtain rfl := List.mem_singleton.1 hop
    exact fun h => keep_arr w (Proc.devRef_injective _ (Finset.mem_singleton.mp h))
  · intro ops hops op hop b hb
    obtain rfl := List.mem_singleton.1 hops
    obtain rfl := List.mem_singleton.1 hop
    exact Finset.mem_singleton.2 (Proc.devRef_injective _ (Finset.mem_singleton.mp hb))
  · rintro r ⟨h, hs⟩
    refine ⟨fun c b hb => ?_, hs⟩
    by_cases h2 : b = main_arg2
    · subst h2
      have e := Pipeline.RDat.FramePostR.arr_in h c (1 : Fin 4) rfl
      rw [A_arg2 m] at e
      exact e.trans (arg_entry m c main_arg2 hb)
    · refine ((h c).2 b ?_).trans (arg_entry m c b hb)
      exact arg_rest b hb h2

end Cert.Kernel.Run
-- ==== Proof.Words.lean ====
/- The requantization of one 32-bit accumulator, on words and on integers: the value every path of
   the kernel and the reference compute. -/
module

public import Idealize.ShloMosaic.PureOps.Float
public import Mathlib.Tactic.Ring
public import Mathlib.Tactic.Linarith
public import Mathlib.Tactic.IntervalCases
public import Mathlib.Tactic.NormNum
public import Mathlib.Tactic.Positivity
public import Mathlib.Algebra.Order.Ring.Abs

@[expose] public section

namespace Cert.Value

open Idealize.ShloMosaic

/-- The rounded high word of an accumulator times a multiplier, in 16-bit limbs of the magnitude. -/
def absw (a : BitVec 32) : BitVec 32 := if a.msb then -a else a
def lo (a m : BitVec 32) : BitVec 32 := (absw a &&& 65535#32) * (m &&& 65535#32)
def mid (a m : BitVec 32) : BitVec 32 := (absw a >>> 16) * (m &&& 65535#32) + (absw a &&& 65535#32) * (m >>> 16)
def tmid (a m : BitVec 32) : BitVec 32 := (lo a m >>> 16) + (mid a m &&& 65535#32)
def low (a m : BitVec 32) : BitVec 32 := ((tmid a m &&& 65535#32) <<< 16) ||| (lo a m &&& 65535#32)
def high (a m : BitVec 32) : BitVec 32 := (absw a >>> 16) * (m >>> 16) + (mid a m >>> 16) + (tmid a m >>> 16)
def low2 (a m : BitVec 32) : BitVec 32 := low a m + if a.slt 0 then 1073741823#32 else 1073741824#32
def high2 (a m : BitVec 32) : BitVec 32 := high a m + if (low2 a m).ult (low a m) then 1 else 0
def rnd (a m : BitVec 32) : BitVec 32 := (high2 a m <<< 1) ||| (low2 a m >>> 31)
def quot (a m : BitVec 32) : BitVec 32 := if a.slt 0 then -rnd a m else rnd a m

/-- The rounded right shift, the output's zero point and the clip to a byte. -/
def mask (s : BitVec 32) : BitVec 32 := IntOp.shli .vector 1#32 s - 1#32
def thr (q s : BitVec 32) : BitVec 32 := IntOp.shrsi .vector (mask s) 1#32 + if q.slt 0 then 1 else 0
def scaled (q s z : BitVec 32) : BitVec 32 :=
  IntOp.shrsi .vector q s + (if (thr q s).slt (q &&& mask s) then 1 else 0) + z
def clip8 (v : BitVec 32) : BitVec 8 := (IntOp.minsi 255#32 (IntOp.maxsi 0#32 v)).setWidth 8
def requant (a m s z : BitVec 32) : BitVec 8 := clip8 (scaled (quot a m) s z)

/-! ### The integers the words are -/

theorem and_mask16 (x : BitVec 32) : (x &&& 65535#32).toNat = x.toNat % 65536 := by
  rw [BitVec.toNat_and]; exact Nat.and_two_pow_sub_one_eq_mod _ 16
theorem shr16 (x : BitVec 32) : (x >>> 16).toNat = x.toNat / 65536 := by
  rw [BitVec.toNat_ushiftRight, Nat.shiftRight_eq_div_pow]
theorem shr31 (x : BitVec 32) : (x >>> 31).toNat = x.toNat / 2147483648 := by
  rw [BitVec.toNat_ushiftRight, Nat.shiftRight_eq_div_pow]
theorem mul_nat (x y : BitVec 32) (h : x.toNat * y.toNat < 4294967296) : (x * y).toNat = x.toNat * y.toNat := by
  rw [BitVec.toNat_mul]; exact Nat.mod_eq_of_lt h
theorem add_nat (x y : BitVec 32) (h : x.toNat + y.toNat < 4294967296) : (x + y).toNat = x.toNat + y.toNat := by
  rw [BitVec.toNat_add]; exact Nat.mod_eq_of_lt h

theorem bmod_small (x : ℤ) (h : -2147483648 ≤ x) (h' : x < 2147483648) : x.bmod (2 ^ 32) = x := by
  have e : x.bmod 4294967296 = x := by rw [Int.bmod_def]; omega
  exact e

theorem carry (L c s H X : ℕ) (hL : L < 4294967296) (hc : c ≤ 1073741824) (hs : s = (L + c) % 4294967296)
    (hl : H * 4294967296 + L = X) (hX : X ≤ 4611686014132420609) :
    (s < L → H + 1 < 4294967296 ∧ (H + 1) * 4294967296 + s = X + c)
      ∧ (¬ s < L → H + 0 < 4294967296 ∧ (H + 0) * 4294967296 + s = X + c) := by
  omega
theorem carry_lt (H l X c : ℕ) (hl : H * 4294967296 + l = X + c) (hc : c ≤ 1073741824) (hX : X ≤ 4611686014132420609) :
    H * 2 < 4294967296 := by omega
theorem carry_div (H l Y : ℕ) (hl : H * 4294967296 + l = Y) (h : l < 4294967296) :
    H * 2 + l / 2147483648 = Y / 2147483648 := by omega

theorem small31 (X c : ℕ) (hX : X ≤ 4611686014132420609) (hc : c ≤ 1073741824) : 2 * ((X + c) / 2147483648) < 2 ^ 32 := by
  have : (X + c) / 2147483648 < 2147483648 := by omega
  norm_num; omega
theorem neg_case (X : ℕ) (hX : X ≤ 4611686014132420609) :
    (-(((X + 1073741823) / 2147483648 : ℕ) : ℤ)).bmod (2 ^ 32) = (-(X : ℤ) + 1073741824) / 2147483648 := by
  rw [bmod_small _ (by omega) (by omega)]; omega

/-- The limbs' words are the product of the magnitude and the multiplier, high and low. -/
theorem limbs (a m : BitVec 32) (hu : (absw a).toNat < 2147483648) (hm : m.toNat < 2147483648) :
    (high a m).toNat * 4294967296 + (low a m).toNat = (absw a).toNat * m.toNat := by
  generalize hU : (absw a).toNat = U at hu
  generalize hM : m.toNat = M at hm
  have ha1 : U / 65536 ≤ 32767 := by omega
  have ha0 : U % 65536 ≤ 65535 := by omega
  have hb1 : M / 65536 ≤ 32767 := by omega
  have hb0 : M % 65536 ≤ 65535 := by omega
  have hp : U * M = (U / 65536) * (M / 65536) * 4294967296
      + ((U / 65536) * (M % 65536) + (U % 65536) * (M / 65536)) * 65536 + (U % 65536) * (M % 65536) := by
    conv_lhs => rw [← Nat.div_add_mod U 65536, ← Nat.div_add_mod M 65536]
    ring
  have k00 : (U % 65536) * (M % 65536) ≤ 65535 * 65535 := Nat.mul_le_mul ha0 hb0
  have k10 : (U / 65536) * (M % 65536) ≤ 32767 * 65535 := Nat.mul_le_mul ha1 hb0
  have k01 : (U % 65536) * (M / 65536) ≤ 65535 * 32767 := Nat.mul_le_mul ha0 hb1
  have k11 : (U / 65536) * (M / 65536) ≤ 32767 * 32767 := Nat.mul_le_mul ha1 hb1
  have eul : (absw a &&& 65535#32).toNat = U % 65536 := by rw [and_mask16, hU]
  have euh : (absw a >>> 16).toNat = U / 65536 := by rw [shr16, hU]
  have eml : (m &&& 65535#32).toNat = M % 65536 := by rw [and_mask16, hM]
  have emh : (m >>> 16).toNat = M / 65536 := by rw [shr16, hM]
  have elo : (lo a m).toNat = (U % 65536) * (M % 65536) := by
    unfold lo; rw [mul_nat, eul, eml]; rw [eul, eml]; omega
  have emid : (mid a m).toNat = (U / 65536) * (M % 65536) + (U % 65536) * (M / 65536) := by
    have e1 : ((absw a >>> 16) * (m &&& 65535#32)).toNat = (U / 65536) * (M % 65536) := by
      rw [mul_nat, euh, eml]; rw [euh, eml]; omega
    have e2 : ((absw a &&& 65535#32) * (m >>> 16)).toNat = (U % 65536) * (M / 65536) := by
      rw [mul_nat, eul, emh]; rw [eul, emh]; omega
    unfold mid; rw [add_nat, e1, e2]; rw [e1, e2]; omega
  have ehh : ((absw a >>> 16) * (m >>> 16)).toNat = (U / 65536) * (M / 65536) := by
    rw [mul_nat, euh, emh]; rw [euh, emh]; omega
  generalize (U % 65536) * (M % 65536) = p00 at *
  generalize (U / 65536) * (M % 65536) = p10 at *
  generalize (U % 65536) * (M / 65536) = p01 at *
  generalize (U / 65536) * (M / 65536) = p11 at *
  have et : (tmid a m).toNat = p00 / 65536 + (p10 + p01) % 65536 := by
    unfold tmid; rw [add_nat, shr16, and_mask16, elo, emid]; rw [shr16, and_mask16, elo, emid]; omega
  have elow : (low a m).toNat = (tmid a m).toNat % 65536 * 65536 + (lo a m).toNat % 65536 := by
    unfold low
    rw [BitVec.toNat_or, BitVec.toNat_shiftLeft, and_mask16, and_mask16, Nat.mod_eq_of_lt
      (by rw [Nat.shiftLeft_eq]; have := Nat.mod_lt (tmid a m).toNat (show 65536 > 0 by decide); norm_num; omega),
      ← Nat.shiftLeft_add_eq_or_of_lt (i := 16) (by omega), Nat.shiftLeft_eq]
  have ehi : (high a m).toNat = p11 + (mid a m).toNat / 65536 + (tmid a m).toNat / 65536 := by
    unfold high
    have e1 : ((absw a >>> 16) * (m >>> 16) + (mid a m >>> 16)).toNat = p11 + (mid a m).toNat / 65536 := by
      rw [add_nat, shr16, ehh]; rw [shr16, ehh, emid]; omega
    rw [add_nat, e1, shr16]; rw [e1, shr16, emid, et]; omega
  rw [ehi, elow, et, emid, elo, hp]
  omega

theorem slt_zero (a : BitVec 32) : a.slt 0 = decide (a.toInt < 0) := by
  rw [BitVec.slt_eq_decide]; rfl

theorem absw_nat (a : BitVec 32) : ((absw a).toNat : ℤ) = |a.toInt| := by
  unfold absw
  have := a.isLt
  by_cases h : a.msb
  · rw [if_pos h, BitVec.toNat_neg, BitVec.toInt_eq_msb_cond, if_pos h]
    have h2 := BitVec.msb_eq_decide a
    rw [h] at h2
    have h3 := of_decide_eq_true h2.symm
    rw [abs_of_nonpos (by omega), Nat.mod_eq_of_lt (by omega)]
    omega
  · rw [if_neg h, BitVec.toInt_eq_msb_cond, if_neg h]
    rw [abs_of_nonneg (by omega)]

/-- The rounded quotient is the product over `2 ^ 31`, rounded half up. -/
theorem quot_int (a m : BitVec 32) (ha : -2147483648 < a.toInt) (hm : m.toNat < 2147483648) :
    (quot a m).toInt = (a.toInt * m.toNat + 1073741824) / 2147483648 := by
  have hA := absw_nat a
  have halt := BitVec.toInt_lt (x := a)
  have hu : (absw a).toNat < 2147483648 := by
    have : |a.toInt| < 2147483648 := abs_lt.2 ⟨by omega, by simpa using halt⟩
    omega
  have hl := limbs a m hu hm
  have hP : (absw a).toNat * m.toNat ≤ 4611686014132420609 :=
    (Nat.mul_le_mul (Nat.le_of_lt_succ hu) (Nat.le_of_lt_succ hm)).trans (by norm_num)
  generalize hX : (absw a).toNat * m.toNat = X at hl hP
  have hlow := (low a m).isLt
  have hr : ∀ c : BitVec 32, c.toNat ≤ 1073741824 → low2 a m = low a m + c →
      (rnd a m).toNat = (X + c.toNat) / 2147483648 := by
    intro c hc e
    have e2 : (high2 a m).toNat * 4294967296 + (low2 a m).toNat = X + c.toNat := by
      have hs : (low2 a m).toNat = ((low a m).toNat + c.toNat) % 4294967296 := by rw [e, BitVec.toNat_add]
      have hc' := carry _ _ _ _ _ hlow hc hs hl hP
      unfold high2
      by_cases hov : (low2 a m).toNat < (low a m).toNat
      · rw [if_pos (by rw [BitVec.ult]; exact decide_eq_true hov), add_nat _ _ (hc'.1 hov).1]
        exact (hc'.1 hov).2
      · rw [if_neg (by rw [BitVec.ult]; simpa using hov), add_nat _ _ (hc'.2 hov).1]
        exact (hc'.2 hov).2
    have hl2 := (low2 a m).isLt
    have h3 := carry_lt _ _ _ _ e2 hc hP
    unfold rnd
    rw [BitVec.toNat_or, BitVec.toNat_shiftLeft, shr31, Nat.mod_eq_of_lt (by rw [Nat.shiftLeft_eq]; exact h3),
      ← Nat.shiftLeft_add_eq_or_of_lt (i := 1) (by rw [Nat.pow_one]; exact Nat.div_lt_of_lt_mul hl2), Nat.shiftLeft_eq]
    exact carry_div _ _ _ e2 hl2
  have hmul : a.toInt * m.toNat = if a.toInt < 0 then -(X : ℤ) else X := by
    split
    · rename_i h
      rw [← hX, Nat.cast_mul, hA, abs_of_neg h]; ring
    · rename_i h
      rw [← hX, Nat.cast_mul, hA, abs_of_nonneg (by omega)]
  rw [hmul]
  unfold quot
  by_cases h : a.toInt < 0
  · have hs : a.slt 0 = true := by rw [slt_zero]; exact decide_eq_true h
    rw [if_pos hs, if_pos h]
    have := hr 1073741823#32 (by simp) (by unfold low2; rw [if_pos hs])
    rw [BitVec.toNat_ofNat, Nat.mod_eq_of_lt (by norm_num)] at this
    rw [BitVec.toInt_neg, BitVec.toInt_eq_toNat_of_lt (by rw [this]; exact small31 _ _ hP (by norm_num)), this]
    exact neg_case X hP
  · have hs : ¬ a.slt 0 = true := by rw [slt_zero]; simpa using h
    rw [if_neg hs, if_neg h]
    have := hr 1073741824#32 (by simp) (by unfold low2; rw [if_neg hs])
    rw [BitVec.toNat_ofNat, Nat.mod_eq_of_lt (by norm_num)] at this
    rw [BitVec.toInt_eq_toNat_of_lt (by rw [this]; exact small31 _ _ hP (by norm_num)), this]
    norm_cast

/-- The clip to a byte, on integers. -/
def clipZ (v : ℤ) : BitVec 8 := BitVec.ofInt 8 (min 255 (max 0 v))

theorem clip8_int (v : BitVec 32) : clip8 v = clipZ v.toInt := by
  unfold clip8 clipZ IntOp.minsi IntOp.maxsi
  have e0 : (0#32).toInt = 0 := rfl
  have e255 : (255#32).toInt = 255 := rfl
  by_cases h0 : v.toInt < 0
  · have h : v.slt 0#32 = true := by rw [BitVec.slt_eq_decide, e0]; exact decide_eq_true h0
    rw [if_pos h, max_eq_left (by omega)]
    rfl
  · have h : ¬ v.slt 0#32 = true := by rw [BitVec.slt_eq_decide, e0]; simpa using h0
    rw [if_neg h, max_eq_right (by omega)]
    by_cases h1 : 255 < v.toInt
    · have h : (255#32).slt v = true := by rw [BitVec.slt_eq_decide, e255]; exact decide_eq_true h1
      rw [if_pos h, min_eq_left (by omega)]
      rfl
    · have h : ¬ (255#32).slt v = true := by rw [BitVec.slt_eq_decide, e255]; simpa using h1
      rw [if_neg h, min_eq_right (by omega)]
      apply BitVec.eq_of_toNat_eq
      have hv : (v.toNat : ℤ) = v.toInt := by
        have := v.isLt
        have h2 := BitVec.toInt_eq_toNat_cond v
        split at h2 <;> omega
      rw [BitVec.toNat_setWidth, BitVec.toNat_ofInt]
      omega

/-- The shifted, shifted-in-zero-point value on integers. -/
theorem scaled_int (q s z : BitVec 32) (hs1 : 1 ≤ s.toNat) (hs2 : s.toNat ≤ 13) (hz0 : 0 ≤ z.toInt) (hz : z.toInt ≤ 255) :
    (scaled q s z).toInt = (q.toInt + 2 ^ (s.toNat - 1) - if q.toInt < 0 then 1 else 0) / 2 ^ s.toNat + z.toInt := by
  have hq1 := BitVec.toInt_lt (x := q)
  have hq2 := BitVec.le_toInt (x := q)
  have hqn := q.isLt
  have hqc := BitVec.toInt_eq_toNat_cond q
  generalize hn : s.toNat = n at *
  have es : s = BitVec.ofNat 32 n := by rw [← hn]; simp
  have hmaskn : (mask s).toNat = 2 ^ n - 1 := by rw [es]; clear hn es; interval_cases n <;> decide
  have hthr0 : (IntOp.shrsi .vector (mask s) 1#32).toInt = 2 ^ (n - 1) - 1 := by rw [es]; clear hn es hmaskn; interval_cases n <;> decide
  have hand : (q &&& mask s).toNat = q.toNat % 2 ^ n := by
    rw [BitVec.toNat_and, hmaskn]; exact Nat.and_two_pow_sub_one_eq_mod _ _
  have hsh : (IntOp.shrsi .vector q s).toInt = q.toInt / 2 ^ n := by
    unfold IntOp.shrsi
    rw [if_pos (by omega), BitVec.sshiftRight', BitVec.toInt_sshiftRight, hn, Int.shiftRight_eq_div_pow]; norm_cast
  have hpow : (2 : ℤ) ^ n = 2 * 2 ^ (n - 1) ∧ (2:ℤ) ^ (n-1) ≤ 4096 ∧ 1 ≤ (2:ℤ) ^ (n-1) := by
    clear hn es hmaskn hthr0 hand hsh; interval_cases n <;> decide
  have hthr : (thr q s).toInt = 2 ^ (n - 1) - 1 + if q.toInt < 0 then 1 else 0 := by
    unfold thr
    rw [BitVec.toInt_add, hthr0, slt_zero]
    by_cases h : q.toInt < 0
    · simp only [h, decide_true, if_true]; rw [show (1 : BitVec 32).toInt = 1 from rfl]; exact bmod_small _ (by omega) (by omega)
    · simp only [h, decide_false, if_false, Bool.false_eq_true]; rw [show (0 : BitVec 32).toInt = 0 from rfl]; exact bmod_small _ (by omega) (by omega)
  have handi : (q &&& mask s).toInt = q.toInt % 2 ^ n := by
    have hcast : ((q.toNat % 2 ^ n : ℕ) : ℤ) = q.toInt % 2 ^ n := by
      push_cast
      clear hn es hmaskn hthr0 hand hsh hpow hthr
      interval_cases n <;> norm_num <;> omega
    have hlt : (q &&& mask s).toNat < 8193 := by
      rw [hand]
      have : q.toNat % 2 ^ n < 2 ^ n := Nat.mod_lt _ (by positivity)
      have h3 : (2:ℕ) ^ n ≤ 2 ^ 13 := Nat.pow_le_pow_right (by decide) hs2
      omega
    rw [BitVec.toInt_eq_toNat_of_lt (by omega), hand, hcast]
  unfold scaled
  rw [BitVec.slt_eq_decide, hthr, handi]
  have hbit : ∀ p : Prop, [Decidable p] → (if decide p = true then (1 : BitVec 32) else 0).toInt = if p then 1 else 0 := by
    intro p _; by_cases h : p <;> simp [h] <;> rfl
  rw [BitVec.toInt_add, BitVec.toInt_add, hsh, hbit]
  clear hbit hthr handi hthr0 hand hmaskn hpow hsh
  have hfin : ∀ N H : ℤ, N = 2 * H → 1 ≤ H → H ≤ 4096 → q.toInt / N ≤ 1073741824 → -1073741824 ≤ q.toInt / N →
      (((q.toInt / N + if (H - 1 + if q.toInt < 0 then 1 else 0) < q.toInt % N then 1 else 0).bmod (2 ^ 32) + z.toInt).bmod (2 ^ 32)
        = (q.toInt + H - if q.toInt < 0 then 1 else 0) / N + z.toInt) := by
    intro N H hN hH hH2 hb1 hb2
    have hdm := Int.mul_ediv_add_emod q.toInt N
    have hm0 := Int.emod_nonneg q.toInt (show N ≠ 0 by omega)
    have hm1 := Int.emod_lt_of_pos q.toInt (show 0 < N by omega)
    generalize q.toInt / N = d at *
    generalize q.toInt % N = r at *
    have key : (q.toInt + H - if q.toInt < 0 then 1 else 0) / N = d + if (H - 1 + if q.toInt < 0 then 1 else 0) < r then 1 else 0 := by
      rw [show q.toInt + H - (if q.toInt < 0 then 1 else 0) = (r + H - if q.toInt < 0 then 1 else 0) + N * d by rw [← hdm]; ring,
        Int.add_mul_ediv_left _ _ (by omega), add_comm]
      congr 1
      have he : (if q.toInt < 0 then (1:ℤ) else 0) = 0 ∨ (if q.toInt < 0 then (1:ℤ) else 0) = 1 := by
        by_cases h : q.toInt < 0 <;> simp [h]
      generalize (if q.toInt < 0 then (1:ℤ) else 0) = e at he
      split
      · rename_i hlt
        exact (Int.ediv_eq_iff_of_pos (by omega)).2 (by constructor <;> omega)
      · rename_i hlt
        exact (Int.ediv_eq_iff_of_pos (by omega)).2 (by constructor <;> omega)
    rw [key]
    have hb01 : ∀ e : ℤ, (e = 0 ∨ e = 1) → ((d + e).bmod (2 ^ 32) + z.toInt).bmod (2 ^ 32) = d + e + z.toInt := by
      intro e he
      rw [bmod_small (d + e) (by omega) (by omega), bmod_small _ (by omega) (by omega)]
    exact hb01 _ (ite_eq_or_eq _ _ _).symm
  have hb : ∀ N : ℤ, 2 ≤ N → q.toInt / N ≤ 1073741824 ∧ -1073741824 ≤ q.toInt / N := by
    intro N hN
    constructor
    · exact Int.ediv_le_of_le_mul (by omega) (by norm_num at hq1; linarith)
    · exact Int.le_ediv_of_mul_le (by omega) (by norm_num at hq2; linarith)
  have hpow : (2 : ℤ) ^ n = 2 * 2 ^ (n - 1) ∧ (2:ℤ) ^ (n-1) ≤ 4096 ∧ 1 ≤ (2:ℤ) ^ (n-1) := by
    clear hn es; interval_cases n <;> decide
  exact hfin _ _ hpow.1 hpow.2.2 hpow.2.1 (hb _ (by omega)).1 (hb _ (by omega)).2

end Cert.Value
-- ==== Proof.FastWord.lean ====
/- The fast path's requantization is the general one: on words and integers. -/
module

public import proofs.«01_k».proof.Proof.Words
public import Mathlib.Data.BitVec

@[expose] public section

namespace Cert.Value

open Idealize.ShloMosaic

/-- What the fast path stores, from the clamped accumulator and its quotient. -/
def fastWord (k A s z : BitVec 32) : BitVec 32 :=
  IntOp.shrsi .vector (k + 1530920960#32 + IntOp.shrsi .vector A 31#32
    + (IntOp.shli .vector 1#32 (s - 1#32) + IntOp.shli .vector z s - 1530920960#32)) s

theorem shrsi_int (x y : BitVec 32) (n : ℕ) (hn : y.toNat = n) (h : n < 32) :
    (IntOp.shrsi .vector x y).toInt = x.toInt / 2 ^ n := by
  unfold IntOp.shrsi
  rw [if_pos (by omega), BitVec.sshiftRight', BitVec.toInt_sshiftRight, hn, Int.shiftRight_eq_div_pow]; norm_cast

/-- The quotient the fast path forms, on integers. -/
def quotZ (a M : ℤ) : ℤ := (a * M + 1073741824) / 2147483648

theorem quotZ_mono (a b M : ℤ) (hM : 0 ≤ M) (h : a ≤ b) : quotZ a M ≤ quotZ b M :=
  Int.ediv_le_ediv (by norm_num) (by have := mul_le_mul_of_nonneg_right h hM; omega)

theorem quotZ_top (M : ℤ) (h : 1073741824 ≤ M) : 2097152 ≤ quotZ 4194303 M := by unfold quotZ; omega
theorem quotZ_bot (M : ℤ) (h : 1073741824 ≤ M) : quotZ (-4194303) M ≤ -2097151 := by unfold quotZ; omega

theorem quotZ_abs (a M : ℤ) (h : 1073741824 ≤ M) (h' : M < 2147483648) (h1 : -4194303 ≤ a) (h2 : a ≤ 4194303) :
    -4194304 ≤ quotZ a M ∧ quotZ a M ≤ 4194304 := by
  have e1 := quotZ_mono _ _ M (by omega) h1
  have e2 := quotZ_mono _ _ M (by omega) h2
  constructor
  · refine le_trans ?_ e1; unfold quotZ; omega
  · refine e2.trans ?_; unfold quotZ; omega

/-- Below zero the quotient is not positive; it is zero only where both roundings give zero. -/
theorem quotZ_neg (a M : ℤ) (h : 1073741824 ≤ M) (ha : a < 0) : quotZ a M ≤ 0 := by
  have : a * M ≤ -1073741824 := by nlinarith
  unfold quotZ; omega
theorem quotZ_nonneg (a M : ℤ) (h : 1073741824 ≤ M) (ha : 0 ≤ a) : 0 ≤ quotZ a M := by
  have : 0 ≤ a * M := by nlinarith
  unfold quotZ; omega

/-- The rounded shift of the clamped accumulator clips to the byte of the accumulator itself. -/
theorem clip_clamp (a M z H N : ℤ) (h : 1073741824 ≤ M) (hN : N = 2 * H) (hH : 1 ≤ H) (hH2 : H ≤ 4096)
    (hz0 : 0 ≤ z) (hz : z ≤ 255) :
    clipZ ((quotZ (min 4194303 (max (-4194303) a)) M + (if min 4194303 (max (-4194303) a) < 0 then -1 else 0) + (H + z * N)) / N)
      = clipZ ((quotZ a M + H - if quotZ a M < 0 then 1 else 0) / N + z) := by
  have hdiv : ∀ x : ℤ, (x + (H + z * N)) / N = (x + H) / N + z := by
    intro x
    rw [← add_assoc, Int.add_mul_ediv_right _ _ (by omega)]
  rw [hdiv]
  by_cases h1 : 4194303 < a
  · have e1 := quotZ_top M h
    have e2 := quotZ_mono _ _ M (by omega) h1.le
    rw [max_eq_right (by omega), min_eq_left (by omega), if_neg (by omega), if_neg (by omega)]
    have f : ∀ x : ℤ, 2097152 ≤ x → 255 ≤ (x + H) / N := fun x hx =>
      Int.le_ediv_of_mul_le (by omega) (by omega)
    have f1 := f (quotZ 4194303 M + 0) (by omega)
    have f2 := f (quotZ a M - 0) (by omega)
    rw [show quotZ a M + H - 0 = quotZ a M - 0 + H by ring]
    unfold clipZ
    rw [max_eq_right (by omega), max_eq_right (by omega), min_eq_left (by omega), min_eq_left (by omega)]
  by_cases h2 : a < -4194303
  · have e1 := quotZ_bot M h
    have e2 := quotZ_mono _ _ M (by omega) h2.le
    rw [max_eq_left (by omega), min_eq_right (by omega), if_pos (by omega), if_pos (by omega)]
    have f : ∀ x : ℤ, x ≤ -2097152 → (x + H) / N ≤ -256 := fun x hx => by
      have : (x + H) / N < -255 := Int.ediv_lt_of_lt_mul (by omega) (by omega)
      omega
    have f1 := f (quotZ (-4194303) M + -1) (by omega)
    have f2 := f (quotZ a M - 1) (by omega)
    rw [show quotZ a M + H - 1 = quotZ a M - 1 + H by ring]
    unfold clipZ
    rw [max_eq_left (by omega), max_eq_left (by omega)]
  rw [max_eq_right (by omega), min_eq_right (by omega)]
  congr 2
  by_cases h3 : a < 0
  · have e := quotZ_neg a M h h3
    rw [if_pos h3]
    by_cases h4 : quotZ a M < 0
    · rw [if_pos h4]; congr 1; ring
    · rw [if_neg h4]
      have e0 : quotZ a M = 0 := by omega
      rw [e0, Int.ediv_eq_zero_of_lt (by omega) (by omega), Int.ediv_eq_zero_of_lt (by omega) (by omega)]
  · have e := quotZ_nonneg a M h (by omega)
    rw [if_neg h3, if_neg (by omega)]; congr 1; ring

theorem fast_requant (a m s z A k : BitVec 32) (hm1 : 1073741824 ≤ m.toNat) (hm2 : m.toNat < 2147483648)
    (hs1 : 1 ≤ s.toNat) (hs2 : s.toNat ≤ 13) (hz0 : 0 ≤ z.toInt) (hz : z.toInt ≤ 255) (ha : -2147483648 < a.toInt)
    (hA : A.toInt = min 4194303 (max (-4194303) a.toInt)) (hk : k.toInt = quotZ A.toInt m.toNat) :
    clip8 (fastWord k A s z) = requant a m s z := by
  have hM1 : (1073741824 : ℤ) ≤ (m.toNat : ℤ) := by omega
  have hM2 : (m.toNat : ℤ) < 2147483648 := by omega
  have hq : (quot a m).toInt = quotZ a.toInt m.toNat := quot_int a m ha hm2
  have hA31 : (IntOp.shrsi .vector A 31#32).toInt = if A.toInt < 0 then -1 else 0 := by
    rw [shrsi_int A 31#32 31 rfl (by decide), show (2 : ℤ) ^ 31 = 2147483648 by norm_num]
    split <;> omega
  have hzn : (z.toNat : ℤ) = z.toInt := by
    have := z.isLt
    have h2 := BitVec.toInt_eq_toNat_cond z
    split at h2 <;> omega
  have hkb := quotZ_abs A.toInt m.toNat hM1 hM2 (by omega) (by omega)
  have hfinal := clip_clamp a.toInt m.toNat z.toInt (2 ^ (s.toNat - 1)) (2 ^ s.toNat) hM1
  have hs' := scaled_int (quot a m) s z hs1 hs2 hz0 hz
  unfold requant
  rw [clip8_int, clip8_int, hs', hq]
  generalize hn : s.toNat = n at *
  have es : s = BitVec.ofNat 32 n := by rw [← hn]; simp
  have hpow : (2 : ℤ) ^ n = 2 * 2 ^ (n - 1) ∧ (2:ℤ) ^ (n-1) ≤ 4096 ∧ 1 ≤ (2:ℤ) ^ (n-1) := by
    clear hn es hs' hfinal; interval_cases n <;> decide
  have hone : (IntOp.shli .vector 1#32 (s - 1#32)).toInt = 2 ^ (n - 1) := by
    rw [es]; clear hn es hs' hfinal hpow; interval_cases n <;> decide
  have hz255 : z.toNat ≤ 255 := by omega
  have hzs : (IntOp.shli .vector z s).toInt = z.toInt * 2 ^ n := by
    unfold IntOp.shli
    rw [if_pos (by omega), BitVec.shiftLeft_eq', hn]
    have hb : z.toNat * 2 ^ n ≤ 255 * 8192 := Nat.mul_le_mul hz255 (Nat.pow_le_pow_right (by decide) hs2)
    have e : (z <<< n).toNat = z.toNat * 2 ^ n := by
      rw [BitVec.toNat_shiftLeft, Nat.shiftLeft_eq, Nat.mod_eq_of_lt (by omega)]
    rw [BitVec.toInt_eq_toNat_of_lt (by omega), e]; push_cast; rw [hzn]
  have hsum : (k + 1530920960#32 + IntOp.shrsi .vector A 31#32
      + (IntOp.shli .vector 1#32 (s - 1#32) + IntOp.shli .vector z s - 1530920960#32)).toInt
        = quotZ A.toInt m.toNat + (if A.toInt < 0 then -1 else 0) + (2 ^ (n - 1) + z.toInt * 2 ^ n) := by
    rw [show k + 1530920960#32 + IntOp.shrsi .vector A 31#32
      + (IntOp.shli .vector 1#32 (s - 1#32) + IntOp.shli .vector z s - 1530920960#32)
        = (k + IntOp.shrsi .vector A 31#32) + (IntOp.shli .vector 1#32 (s - 1#32) + IntOp.shli .vector z s) by ring]
    have hb : z.toInt * 2 ^ n ≤ 255 * 8192 := by
      rw [hpow.1]; nlinarith
    have hb0 : 0 ≤ z.toInt * 2 ^ n := by positivity
    rw [BitVec.toInt_add, BitVec.toInt_add, BitVec.toInt_add, hk, hA31, hone, hzs]
    have he : (if A.toInt < 0 then (-1 : ℤ) else 0) = -1 ∨ (if A.toInt < 0 then (-1 : ℤ) else 0) = 0 := ite_eq_or_eq _ _ _
    generalize (if A.toInt < 0 then (-1 : ℤ) else 0) = e at he
    generalize z.toInt * 2 ^ n = zz at hb hb0
    obtain ⟨p1, p2, p3⟩ := hpow
    generalize (2 : ℤ) ^ (n - 1) = H at p2 p3
    generalize quotZ A.toInt m.toNat = K at hkb
    rw [bmod_small (K + e) (by omega) (by omega), bmod_small (H + zz) (by omega) (by omega), bmod_small _ (by omega) (by omega)]
  unfold fastWord
  rw [show (IntOp.shrsi .vector (k + 1530920960#32 + IntOp.shrsi .vector A 31#32
      + (IntOp.shli .vector 1#32 (s - 1#32) + IntOp.shli .vector z s - 1530920960#32)) s).toInt
      = (quotZ A.toInt m.toNat + (if A.toInt < 0 then -1 else 0) + (2 ^ (n - 1) + z.toInt * 2 ^ n)) / 2 ^ n by
    rw [shrsi_int _ _ n hn (by omega), hsum], hA]
  exact hfinal hpow.1 hpow.2.2 hpow.2.1 hz0 hz

/-- The quotient as the fast path forms it: what is left of twice the product after its balanced remainder. -/
theorem quotZ_rem (a M : ℤ) : 2 * (a * M) - (2 * (a * M)).bmod (2 ^ 32) = 4294967296 * quotZ a M := by
  unfold quotZ
  generalize a * M = X
  have : (2 * X).bmod 4294967296 = 2 * X - 4294967296 * ((X + 1073741824) / 2147483648) := by
    rw [Int.bmod_def]; omega
  have e : (2 * X).bmod (2 ^ 32) = (2 * X).bmod 4294967296 := rfl
  rw [e, this]; ring

end Cert.Value
-- ==== Proof.Dot.lean ====
/- The accumulator: the product of the centred block with the unpacked weights, an exact integer, and
   the column constants that make it the reference's accumulator modulo 2 ^ 32. -/
module

public import proofs.«01_k».proof.Proof.BodyIdeal
public import proofs.«01_k».proof.Proof.FastWord
public import Idealize.ShloMosaic.Lib.Pointwise
public import Idealize.ShloMosaic.Lib.BitcastPair
public import Idealize.ShloMosaic.Lib.KernelVsHost

@[expose] public section

set_option maxRecDepth 16384

noncomputable section

namespace Cert.Value

open Idealize.ShloMosaic

/-- The two nibbles of a packed byte, as words. -/
def lo4 (w : BitVec 8) : BitVec 32 := w.setWidth 32 &&& 15#32
def hi4 (w : BitVec 8) : BitVec 32 := IntOp.shrsi .vector (w.setWidth 32) 4#32
/-- The unpacked weights: row `2r` is the low nibble of packed row `r`, row `2r + 1` the high one. -/
def nib (ws : Fin 2048 → BitVec 8) (k : Fin 4096) : BitVec 32 :=
  if k.val % 2 = 0 then lo4 (ws ⟨k.val / 2, by omega⟩) else hi4 (ws ⟨k.val / 2, by omega⟩)

/-- The reference's accumulator. -/
def accRef (xs : Fin 4096 → BitVec 8) (ws : Fin 2048 → BitVec 8) (za zb bias : BitVec 32) : BitVec 32 :=
  (∑ r : Fin 2048, (xs ⟨2 * r.val, by omega⟩).setWidth 32 * lo4 (ws r)
    + ∑ r : Fin 2048, (xs ⟨1 + 2 * r.val, by omega⟩).setWidth 32 * hi4 (ws r))
    - zb * ∑ k, (xs k).setWidth 32
    - za * (∑ r, lo4 (ws r) + ∑ r, hi4 (ws r))
    + 4096#32 * za * zb + bias

/-- The kernel's product, an integer, and its column constants. -/
def dotZ (xs : Fin 4096 → BitVec 8) (ws : Fin 2048 → BitVec 8) (zb : BitVec 32) : ℤ :=
  ∑ k, (((xs k).toNat : ℤ) - 128) * ((nib ws k).toInt - zb.toInt)
def colW (ws : Fin 2048 → BitVec 8) (za zb bias : BitVec 32) : BitVec 32 :=
  (128#32 - za) * (∑ r, (lo4 (ws r) + hi4 (ws r)) - 4096#32 * zb) + bias

/-! ### Sums -/

theorem fold_addi {ι : Type} [DecidableEq ι] (f : ι → BitVec 32) (s : Finset ι) :
    Finset.fold IntOp.addi 0#32 f s = ∑ x ∈ s, f x := by
  induction s using Finset.induction_on with
  | empty => rfl
  | insert a s h ih => rw [Finset.fold_insert h, Finset.sum_insert h, ih]; rfl

theorem sum_pairs {M : Type} [AddCommMonoid M] (f : Fin 4096 → M) :
    ∑ k, f k = ∑ r : Fin 2048, (f ⟨2 * r.val, by omega⟩ + f ⟨1 + 2 * r.val, by omega⟩) := by
  rw [← Equiv.sum_comp (finProdFinEquiv : Fin 2048 × Fin 2 ≃ Fin 4096) f, Fintype.sum_prod_type]
  refine Finset.sum_congr rfl fun r _ => ?_
  rw [Fin.sum_univ_two]
  congr 2
  · exact Fin.ext (by simp [finProdFinEquiv])
theorem nib_even (ws : Fin 2048 → BitVec 8) (r : Fin 2048) : nib ws ⟨2 * r.val, by omega⟩ = lo4 (ws r) := by
  unfold nib; rw [if_pos (by simp)]; congr 2; exact Fin.ext (by simp)
theorem nib_odd (ws : Fin 2048 → BitVec 8) (r : Fin 2048) : nib ws ⟨1 + 2 * r.val, by omega⟩ = hi4 (ws r) := by
  unfold nib; rw [if_neg (by simp)]; congr 2; exact Fin.ext (by simp; omega)

theorem lo4_bound (w : BitVec 8) : 0 ≤ (lo4 w).toInt ∧ (lo4 w).toInt ≤ 15 := by revert w; decide
theorem hi4_bound (w : BitVec 8) : 0 ≤ (hi4 w).toInt ∧ (hi4 w).toInt ≤ 15 := by revert w; decide
theorem nib_bound (ws : Fin 2048 → BitVec 8) (k : Fin 4096) : 0 ≤ (nib ws k).toInt ∧ (nib ws k).toInt ≤ 15 := by
  unfold nib; split
  · exact lo4_bound _
  · exact hi4_bound _

theorem ofInt_cast (n : ℤ) : BitVec.ofInt 32 n = (n : BitVec 32) := rfl
theorem toInt_cast (x : BitVec 32) : ((x.toInt : ℤ) : BitVec 32) = x := BitVec.ofInt_toInt
theorem byte_cast (x : BitVec 8) : (((x.toNat : ℤ)) : BitVec 32) = x.setWidth 32 := by
  rw [← ofInt_cast]; apply BitVec.eq_of_toNat_eq
  rw [BitVec.toNat_ofInt, BitVec.toNat_setWidth]; have := x.isLt; omega

theorem acc_ring {R : Type} [CommRing R] (x n : Fin 4096 → R) (za zb b : R) :
    ∑ k, (x k - 128) * (n k - zb) + ((128 - za) * (∑ k, n k - 4096 * zb) + b)
      = ∑ k, x k * n k - zb * ∑ k, x k - za * ∑ k, n k + 4096 * za * zb + b := by
  have e : ∑ k, (x k - 128) * (n k - zb) = ∑ k, x k * n k - zb * ∑ k, x k - 128 * ∑ k, n k + 4096 * (128 * zb) := by
    rw [Finset.mul_sum, Finset.mul_sum, ← Finset.sum_sub_distrib, ← Finset.sum_sub_distrib]
    have : (4096 : R) * (128 * zb) = ∑ _k : Fin 4096, 128 * zb := by
      rw [Finset.sum_const, Finset.card_univ, Fintype.card_fin, nsmul_eq_mul]; norm_num
    rw [this, ← Finset.sum_add_distrib]
    exact Finset.sum_congr rfl fun k _ => by ring
  rw [e]; ring

/-- The product plus the column constants is the reference's accumulator. -/
theorem dot_col (xs : Fin 4096 → BitVec 8) (ws : Fin 2048 → BitVec 8) (za zb bias : BitVec 32) :
    BitVec.ofInt 32 (dotZ xs ws zb) + colW ws za zb bias = accRef xs ws za zb bias := by
  have h := acc_ring (fun k => (xs k).setWidth 32) (nib ws) za zb bias
  have e1 : ∑ r, (lo4 (ws r) + hi4 (ws r)) = ∑ k, nib ws k := by
    rw [sum_pairs]; simp only [nib_even, nib_odd]
  have e2 : BitVec.ofInt 32 (dotZ xs ws zb) = ∑ k, ((xs k).setWidth 32 - 128) * (nib ws k - zb) := by
    unfold dotZ
    rw [ofInt_cast, Int.cast_sum]
    refine Finset.sum_congr rfl fun k _ => ?_
    rw [Int.cast_mul, Int.cast_sub, Int.cast_sub, toInt_cast, toInt_cast, byte_cast]; rfl
  have e3 : ∑ k, (xs k).setWidth 32 * nib ws k = ∑ r : Fin 2048, (xs ⟨2 * r.val, by omega⟩).setWidth 32 * lo4 (ws r)
      + ∑ r : Fin 2048, (xs ⟨1 + 2 * r.val, by omega⟩).setWidth 32 * hi4 (ws r) := by
    rw [sum_pairs]; simp only [nib_even, nib_odd]; rw [Finset.sum_add_distrib]
  unfold colW accRef
  rw [e1, e2, ← e3, ← Finset.sum_add_distrib, e1]
  exact h

theorem dotZ_bound (xs : Fin 4096 → BitVec 8) (ws : Fin 2048 → BitVec 8) (zb : BitVec 32) (h0 : 0 ≤ zb.toInt) (h1 : zb.toInt ≤ 15) :
    |dotZ xs ws zb| ≤ 7864320 := by
  unfold dotZ
  refine (Finset.abs_sum_le_sum_abs _ _).trans ?_
  refine (Finset.sum_le_card_nsmul Finset.univ _ 1920 fun k _ => ?_).trans (by simp)
  rw [abs_mul]
  have hx := (xs k).isLt
  have hn := nib_bound ws k
  have a1 : |((xs k).toNat : ℤ) - 128| ≤ 128 := abs_le.2 ⟨by omega, by omega⟩
  have a2 : |(nib ws k).toInt - zb.toInt| ≤ 15 := abs_le.2 ⟨by omega, by omega⟩
  calc _ ≤ (128 : ℤ) * 15 := mul_le_mul a1 a2 (abs_nonneg _) (by norm_num)
    _ = 1920 := by norm_num

/-- The column constants do not wrap where the parameters are small. -/
theorem colW_int (ws : Fin 2048 → BitVec 8) (za zb bias : BitVec 32) (h0 : 0 ≤ zb.toInt) (h1 : zb.toInt ≤ 15)
    (ha0 : 0 ≤ za.toInt) (ha1 : za.toInt ≤ 255) (hb0 : -1073741824 ≤ bias.toInt) (hb1 : bias.toInt ≤ 1073741824) :
    -1082130432 ≤ (colW ws za zb bias).toInt ∧ (colW ws za zb bias).toInt ≤ 1082130432 := by
  have hS : colW ws za zb bias = BitVec.ofInt 32 ((128 - za.toInt) * (∑ k, (nib ws k).toInt - 4096 * zb.toInt) + bias.toInt) := by
    have e1 : ∑ r, (lo4 (ws r) + hi4 (ws r)) = ∑ k, nib ws k := by
      rw [sum_pairs]; simp only [nib_even, nib_odd]
    unfold colW
    rw [e1, ofInt_cast]
    push_cast
    simp only [toInt_cast]
  have hb : 0 ≤ ∑ k, (nib ws k).toInt ∧ ∑ k, (nib ws k).toInt ≤ 61440 :=
    ⟨Finset.sum_nonneg fun k _ => (nib_bound ws k).1,
      (Finset.sum_le_card_nsmul Finset.univ _ 15 fun k _ => (nib_bound ws k).2).trans (by simp)⟩
  generalize ∑ k, (nib ws k).toInt = S at hb hS
  have a1 : |128 - za.toInt| ≤ 128 := abs_le.2 ⟨by omega, by omega⟩
  have a2 : |S - 4096 * zb.toInt| ≤ 61440 := abs_le.2 ⟨by omega, by omega⟩
  have a3 : |(128 - za.toInt) * (S - 4096 * zb.toInt)| ≤ 7864320 := by
    rw [abs_mul]
    calc _ ≤ (128 : ℤ) * 61440 := mul_le_mul a1 a2 (abs_nonneg _) (by norm_num)
      _ = 7864320 := by norm_num
  have a4 := abs_le.1 a3
  have e : (colW ws za zb bias).toInt = (128 - za.toInt) * (S - 4096 * zb.toInt) + bias.toInt := by
    rw [hS, BitVec.toInt_ofInt]; exact bmod_small _ (by omega) (by omega)
  rw [e]; omega

end Cert.Value
-- ==== Proof.Block.lean ====
/- What the body stores at one element of its block, at the ideal values: the requantization of the
   reference's accumulator, on either path. -/
module

public import proofs.«01_k».proof.Proof.Dot

@[expose] public section

set_option maxRecDepth 16384

noncomputable section

namespace Cert.Value

open Cert.KernelIdeal Cert.KernelIdeal.Gen Cert.KernelIdeal.Body
open Idealize.ShloMosaic

/-! ### The product -/

/-- A weight's word holds its two nibbles, each behind the exponent bits of 128. -/
theorem word_half (w : BitVec 8) (p : Fin 2) :
    (IntOp.ori (IntOp.andi (IntOp.ori (w.setWidth 32) (IntOp.shli .vector (w.setWidth 32) 12#32)) 983055#32) 1124090624#32).extractLsb'
        (16 * p.val) 16
      = BitVec.ofNat 16 (17152 + (if p.val = 0 then lo4 w else hi4 w).toNat) := by
  revert w p; decide

theorem ofBits_nibble (n : ℕ) (h : n < 16) : Ideal.ofBits .bf16 (BitVec.ofNat 16 (17152 + n)) = (((128 + n : ℤ) : ℝ) : EReal) := by
  interval_cases n <;> simp [Ideal.ofBits, Ideal.ieee] <;> norm_num

theorem pay21_at (X : S1024x4096.Idx → Elt Ideal .i8) (r : Fin 1024) (k : Fin 4096) :
    k0_pay21 (F := Ideal) X (ix2 r k) = (((((X (ix2 r k) : BitVec 8).toNat : ℤ) - 128 : ℤ) : ℝ) : EReal) := by
  pointwise [k0_pay21]
  show (((IntOp.subi (BitVec.setWidth 32 (X (ix2 r k))) 128#32).toInt : ℝ) : EReal) = _
  congr 2
  generalize (X (ix2 r k) : BitVec 8) = x
  revert x; decide

theorem nib_toNat (ws : Fin 2048 → BitVec 8) (k : Fin 4096) : (nib ws k).toNat < 16 ∧ ((nib ws k).toNat : ℤ) = (nib ws k).toInt := by
  have hb := nib_bound ws k
  have := (nib ws k).isLt
  have h2 := BitVec.toInt_eq_toNat_cond (nib ws k)
  split at h2 <;> omega

theorem pay28_at (v7 : S1x512.Idx → Elt Ideal .i32) (X : S2048x512.Idx → Elt Ideal .i8) (k : Fin 4096) (c : Fin 512)
    (h0 : 0 ≤ (v7 (ix2 0 c) : BitVec 32).toInt) (h1 : (v7 (ix2 0 c) : BitVec 32).toInt ≤ 15) :
    k0_pay28 (F := Ideal) v7 X (ix2 k c)
      = ((((nib (fun r => X (ix2 r c)) k).toInt - (v7 (ix2 0 c) : BitVec 32).toInt : ℤ) : ℝ) : EReal) := by
  pointwise [k0_pay28, k0_pay23, k0_pay26]
  rw [bitcast_32_16]
  have hrow : S4096x512.row (ix2 k c) = k.val := rfl
  have hsrc : ∀ hp, bitcasts_S2048x512_w32_S4096x512_w16.srcIdx (ix2 k c) (S4096x512.row (ix2 k c) / 2) hp
      = ix2 (⟨k.val / 2, by omega⟩ : Fin 2048) c := by
    intro hp
    funext a
    fin_cases a
    · rfl
    · rfl
  rw [hsrc, hrow]
  have hw := word_half (X (ix2 (⟨k.val / 2, by omega⟩ : Fin 2048) c)) ⟨k.val % 2, by omega⟩
  have hn := nib_toNat (fun r => X (ix2 r c)) k
  have hnib : (if k.val % 2 = 0 then lo4 (X (ix2 (⟨k.val / 2, by omega⟩ : Fin 2048) c)) else hi4 (X (ix2 (⟨k.val / 2, by omega⟩ : Fin 2048) c)))
      = nib (fun r => X (ix2 r c)) k := rfl
  rw [hnib] at hw
  have hz : (IntOp.addi (v7 (ix2 0 c) : BitVec 32) 128#32).toInt = (v7 (ix2 0 c) : BitVec 32).toInt + 128 := by
    show ((v7 (ix2 0 c) : BitVec 32) + 128#32).toInt = _
    rw [BitVec.toInt_add]; exact bmod_small _ (by show _ ≤ _ + (128 : ℤ); omega) (by show _ + (128 : ℤ) < _; omega)
  have hword : (ori (andi (ori (extui 32 X natLt_8_32) (shli (extui 32 X natLt_8_32) (broadcast S2048x512 12#32)))
      (broadcast S2048x512 983055#32)) (broadcast S2048x512 1124090624#32)) (ix2 (⟨k.val / 2, by omega⟩ : Fin 2048) c)
      = IntOp.ori (IntOp.andi (IntOp.ori ((X (ix2 (⟨k.val / 2, by omega⟩ : Fin 2048) c) : BitVec 8).setWidth 32)
        (IntOp.shli .vector ((X (ix2 (⟨k.val / 2, by omega⟩ : Fin 2048) c) : BitVec 8).setWidth 32) 12#32)) 983055#32) 1124090624#32 := rfl
  rw [hword, hw, ofBits_nibble _ hn.1]
  show _ - (((IntOp.addi (v7 (ix2 0 c) : BitVec 32) 128#32).toInt : ℝ) : EReal) = _
  rw [hz, ← EReal.coe_sub, ← Int.cast_sub, hn.2]
  congr 2
  ring

theorem coe_sum {ι : Type} (s : Finset ι) (f : ι → ℝ) : ((∑ k ∈ s, f k : ℝ) : EReal) = ∑ k ∈ s, (f k : EReal) := by
  classical
  induction s using Finset.induction_on with
  | empty => rfl
  | insert a s h ih => rw [Finset.sum_insert h, Finset.sum_insert h, EReal.coe_add, ih]

/-! ### Scalars at the ideal values -/

theorem roundHalfEven_int (n : ℤ) : Ideal.roundHalfEven (n : ℝ) = n := by
  unfold Ideal.roundHalfEven
  simp

theorem fptosi_int (n : ℤ) (h0 : -2147483648 ≤ n) (h1 : n ≤ 2147483647) :
    FloatOps.fptosi (F := Ideal) (φ := .f32) 32 ((n : ℝ) : EReal) = BitVec.ofInt 32 n := by
  show Ideal.fptosi 32 ((n : ℝ) : EReal) = _
  unfold Ideal.fptosi
  rw [Ideal.toIntClamped_coe]
  simp only [Int.floor_intCast, Int.ceil_intCast, ite_self]
  congr 1
  norm_num
  omega

theorem sitofp_word (x : BitVec 32) : FloatOps.sitofp (F := Ideal) .f32 x = ((x.toInt : ℝ) : EReal) := rfl

theorem coe_min (a b : ℤ) : min ((a : ℝ) : EReal) ((b : ℝ) : EReal) = (((min a b : ℤ) : ℝ) : EReal) := by
  rw [Int.cast_min]; exact (EReal.coe_strictMono.monotone.map_min).symm
theorem coe_max (a b : ℤ) : max ((a : ℝ) : EReal) ((b : ℝ) : EReal) = (((max a b : ℤ) : ℝ) : EReal) := by
  rw [Int.cast_max]; exact (EReal.coe_strictMono.monotone.map_max).symm

theorem lim_pos : Ideal.ofBits .f32 1249902588#32 = (((4194303 : ℤ) : ℝ) : EReal) := by
  simp [Ideal.ofBits, Ideal.ieee]
  norm_num
  rw [← EReal.coe_mul]; congr 1; norm_num
theorem lim_neg : Ideal.ofBits .f32 3397386236#32 = (((-4194303 : ℤ) : ℝ) : EReal) := by
  simp [Ideal.ofBits, Ideal.ieee]
  norm_num
  rw [← EReal.coe_mul]; congr 1; norm_num
theorem two_f32 : Ideal.ofBits .f32 1073741824#32 = (((2 : ℤ) : ℝ) : EReal) := by
  simp [Ideal.ofBits, Ideal.ieee]
  norm_num
  rw [← EReal.coe_mul]; congr 1; norm_num
theorem magic_real : ∃ x : ℝ, Ideal.ofBits .f32 1530920960#32 = (x : EReal) := by
  refine ⟨(12582912 * 2 ^ (32 : ℤ) : ℝ), ?_⟩
  simp [Ideal.ofBits, Ideal.ieee]
theorem ulp_real : Ideal.ofBits .f32 796917760#32 = (((1 : ℝ) / 4294967296 : ℝ) : EReal) := by
  simp [Ideal.ofBits, Ideal.ieee]
  norm_num
  rw [← EReal.coe_mul]; congr 1; norm_num

theorem fast_scalar (D : ℤ) (c2 m s z : BitVec 32) (hD : |D| ≤ 7864320) (hc0 : -1082130432 ≤ c2.toInt) (hc1 : c2.toInt ≤ 1082130432)
    (hm1 : 1073741824 ≤ m.toNat) (hm2 : m.toNat < 2147483648)
    (hs1 : 1 ≤ s.toNat) (hs2 : s.toNat ≤ 13) (hz0 : 0 ≤ z.toInt) (hz : z.toInt ≤ 255) :
    BitVec.setWidth 8
      (IntOp.minsi (255#32)
        (IntOp.maxsi (0#32)
          (IntOp.shrsi ArithUnit.vector
            (IntOp.addi
              (IntOp.addi
                (IntOp.addi
                  (FloatOps.fptosi (F := Ideal) (φ := .f32) 32
                    ((min (Ideal.ofBits FTy.f32 1249902588#32)
                                (max (Ideal.ofBits FTy.f32 3397386236#32)
                                  (((D : ℝ) : EReal) + FloatOps.sitofp (F := Ideal) FTy.f32 c2)) *
                              (FloatOps.sitofp (F := Ideal) FTy.f32 m * Ideal.ofBits FTy.f32 1073741824#32) -
                            FloatOps.sitofp (F := Ideal) FTy.f32
                              (IntOp.muli
                                (FloatOps.fptosi (F := Ideal) (φ := .f32) 32
                                  (Ideal.liftRound Ideal.roundHalfEven
                                    (min (Ideal.ofBits FTy.f32 1249902588#32)
                                      (max (Ideal.ofBits FTy.f32 3397386236#32)
                                        (((D : ℝ) : EReal) + FloatOps.sitofp (F := Ideal) FTy.f32 c2)))))
                                (IntOp.shli ArithUnit.vector m 1#32)) +
                          Ideal.ofBits FTy.f32 1530920960#32 -
                        Ideal.ofBits FTy.f32 1530920960#32) *
                      Ideal.ofBits FTy.f32 796917760#32))
                  1530920960#32)
                (IntOp.shrsi ArithUnit.vector
                  (FloatOps.fptosi (F := Ideal) (φ := .f32) 32
                    (Ideal.liftRound Ideal.roundHalfEven
                      (min (Ideal.ofBits FTy.f32 1249902588#32)
                        (max (Ideal.ofBits FTy.f32 3397386236#32) (((D : ℝ) : EReal) + FloatOps.sitofp (F := Ideal) FTy.f32 c2)))))
                  31#32))
              (IntOp.subi
                (IntOp.addi (IntOp.shli ArithUnit.vector (1#32) (IntOp.subi s 1#32)) (IntOp.shli ArithUnit.vector z s))
                1530920960#32))
            s)))
      = requant (BitVec.ofInt 32 D + c2) m s z := by
  have hDb := abs_le.1 hD
  have hacc : min (Ideal.ofBits FTy.f32 1249902588#32) (max (Ideal.ofBits FTy.f32 3397386236#32)
      (((D : ℝ) : EReal) + FloatOps.sitofp (F := Ideal) FTy.f32 c2))
        = (((min 4194303 (max (-4194303) (D + c2.toInt)) : ℤ) : ℝ) : EReal) := by
    rw [sitofp_word, lim_pos, lim_neg, ← EReal.coe_add, ← Int.cast_add, coe_max, coe_min]
  rw [hacc, Ideal.liftRound_coe, roundHalfEven_int]
  have haI : (BitVec.ofInt 32 D + c2).toInt = D + c2.toInt := by
    rw [BitVec.toInt_add, BitVec.toInt_ofInt, bmod_small D (by omega) (by omega)]
    exact bmod_small _ (by omega) (by omega)
  generalize hAdef : min 4194303 (max (-4194303) (D + c2.toInt)) = A
  have hA1 : -4194303 ≤ A := by omega
  have hA2 : A ≤ 4194303 := by omega
  rw [fptosi_int A (by omega) (by omega)]
  have hAi : (BitVec.ofInt 32 A).toInt = A := by
    rw [BitVec.toInt_ofInt]; exact bmod_small _ (by omega) (by omega)
  have hmI : m.toInt = (m.toNat : ℤ) := BitVec.toInt_eq_toNat_of_lt (by omega)
  have hrem : (IntOp.muli (BitVec.ofInt 32 A) (IntOp.shli .vector m 1#32)).toInt = (2 * (A * m.toNat)).bmod (2 ^ 32) := by
    have e : IntOp.muli (BitVec.ofInt 32 A) (IntOp.shli .vector m 1#32) = BitVec.ofInt 32 (2 * (A * m.toNat)) := by
      have e1 : IntOp.shli .vector m 1#32 = m * 2#32 := by
        show m <<< (1#32 : BitVec 32) = _
        rw [BitVec.shiftLeft_eq', show (1#32 : BitVec 32).toNat = 1 from rfl, BitVec.shiftLeft_eq_mul_twoPow]; rfl
      rw [e1, ofInt_cast, ofInt_cast]
      show (A : BitVec 32) * (m * 2#32) = _
      rw [show ((2 * (A * (m.toNat : ℤ)) : ℤ) : BitVec 32) = (2 : BitVec 32) * ((A : BitVec 32) * ((m.toNat : ℤ) : BitVec 32)) by push_cast; rfl,
        ← hmI, toInt_cast]
      show (A : BitVec 32) * (m * 2) = _
      ring
    rw [e, BitVec.toInt_ofInt]
  obtain ⟨M, hM⟩ := magic_real
  have hq := quotZ_rem A m.toNat
  have hqb := quotZ_abs A m.toNat (by omega) (by omega) hA1 hA2
  have hk : (((A : ℝ) : EReal) * (FloatOps.sitofp (F := Ideal) FTy.f32 m * Ideal.ofBits FTy.f32 1073741824#32) -
      FloatOps.sitofp (F := Ideal) FTy.f32 (IntOp.muli (BitVec.ofInt 32 A) (IntOp.shli .vector m 1#32)) +
        Ideal.ofBits FTy.f32 1530920960#32 - Ideal.ofBits FTy.f32 1530920960#32) * Ideal.ofBits FTy.f32 796917760#32
      = (((quotZ A m.toNat : ℤ) : ℝ) : EReal) := by
    rw [sitofp_word, sitofp_word, two_f32, hM, ulp_real, hrem, hmI]
    rw [← EReal.coe_mul, ← EReal.coe_mul, ← EReal.coe_sub, ← EReal.coe_add, ← EReal.coe_sub, ← EReal.coe_mul]
    congr 1
    have hq' : (2 : ℝ) * ((A : ℝ) * (m.toNat : ℤ)) - (((2 * (A * m.toNat)).bmod (2 ^ 32) : ℤ) : ℝ)
        = 4294967296 * ((quotZ A m.toNat : ℤ) : ℝ) := by exact_mod_cast hq
    have : (A : ℝ) * (((m.toNat : ℤ) : ℝ) * ((2 : ℤ) : ℝ)) - (((2 * (A * m.toNat)).bmod (2 ^ 32) : ℤ) : ℝ)
        = 4294967296 * ((quotZ A m.toNat : ℤ) : ℝ) := by rw [← hq']; push_cast; ring
    rw [this]; ring
  rw [hk, fptosi_int _ (by omega) (by omega)]
  exact fast_requant (BitVec.ofInt 32 D + c2) m s z (BitVec.ofInt 32 A) (BitVec.ofInt 32 (quotZ A m.toNat)) hm1 hm2 hs1 hs2 hz0 hz
    (by rw [haI]; omega) (by rw [hAi, haI, hAdef])
    (by rw [hAi, BitVec.toInt_ofInt]; exact bmod_small _ (by omega) (by omega))

/-! ### The general path's words -/

theorem flip_int (x : BitVec 32) : (x ^^^ 2147483648#32).toInt = (x.toNat : ℤ) - 2147483648 := by
  obtain ⟨b, l, rfl⟩ : ∃ (b : Bool) (l : BitVec 31), x = BitVec.cons b l := ⟨_, _, (BitVec.cons_msb_setWidth x).symm⟩
  rw [show (2147483648#32 : BitVec 32) = BitVec.cons true (0#31) by decide, BitVec.cons_xor_cons]
  have := l.isLt
  rw [BitVec.toInt_eq_msb_cond, BitVec.msb_cons, BitVec.toNat_cons', BitVec.toNat_cons']
  cases b <;> simp [Nat.shiftLeft_eq] <;> omega
theorem flip_slt (x y : BitVec 32) : IntOp.cmpi .slt (IntOp.xori x 2147483648#32) (IntOp.xori y 2147483648#32) = BitVec.ofBool (x.ult y) := by
  show BitVec.ofBool (BitVec.slt (x ^^^ 2147483648#32) (y ^^^ 2147483648#32)) = _
  rw [BitVec.slt_eq_decide, flip_int, flip_int, BitVec.ult]
  congr 1
  exact decide_eq_decide.2 (by omega)
theorem bit_word (b : Bool) : BitVec.setWidth 32 (BitVec.ofBool b) = if b then (1 : BitVec 32) else 0 := by cases b <;> rfl
theorem select_bool {α : Type} (b : Bool) (x y : α) : Scalar.select (BitVec.ofBool b) x y = if b then x else y := by cases b <;> rfl
theorem zero_subi (x : BitVec 32) : IntOp.subi 0#32 x = -x := BitVec.zero_sub x
theorem cmpi_slt (x y : BitVec 32) : IntOp.cmpi .slt x y = BitVec.ofBool (x.slt y) := rfl
theorem cmpi_sgt (x y : BitVec 32) : IntOp.cmpi .sgt x y = BitVec.ofBool (y.slt x) := rfl

section Folds
variable (a m s q : BitVec 32)
theorem fold_lo : IntOp.muli (IntOp.andi (IntOp.absi a) 65535#32) (IntOp.andi m 65535#32) = lo a m := rfl
theorem fold_mid : IntOp.addi (IntOp.muli (IntOp.shrui .vector (IntOp.absi a) 16#32) (IntOp.andi m 65535#32))
    (IntOp.muli (IntOp.andi (IntOp.absi a) 65535#32) (IntOp.shrui .vector m 16#32)) = mid a m := rfl
theorem fold_tmid : IntOp.addi (IntOp.shrui .vector (lo a m) 16#32) (IntOp.andi (mid a m) 65535#32) = tmid a m := rfl
theorem fold_low : IntOp.ori (IntOp.shli .vector (IntOp.andi (tmid a m) 65535#32) 16#32) (IntOp.andi (lo a m) 65535#32) = low a m := rfl
theorem fold_low2 : IntOp.addi (low a m) (if a.slt 0#32 = true then 1073741823#32 else 1073741824#32) = low2 a m := rfl
theorem fold_high2 : IntOp.addi (IntOp.addi (IntOp.addi (IntOp.muli (IntOp.shrui .vector (IntOp.absi a) 16#32) (IntOp.shrui .vector m 16#32))
    (IntOp.shrui .vector (mid a m) 16#32)) (IntOp.shrui .vector (tmid a m) 16#32))
    (if (low2 a m).ult (low a m) = true then 1 else 0) = high2 a m := rfl
theorem fold_rnd : IntOp.ori (IntOp.shli .vector (high2 a m) 1#32) (IntOp.shrui .vector (low2 a m) 31#32) = rnd a m := rfl
theorem fold_quot : (if a.slt 0#32 = true then -rnd a m else rnd a m) = quot a m := rfl
theorem fold_mask : IntOp.subi (IntOp.shli .vector 1#32 s) 1#32 = mask s := rfl
theorem fold_thr : IntOp.addi (IntOp.shrsi .vector (mask s) 1#32) (if q.slt 0#32 = true then 1 else 0) = thr q s := rfl
end Folds

section Block
variable (X2 : S2.Idx → Elt Ideal .i32) (X4 : S1024x4096.Idx → Elt Ideal .i8)
    (X5 : S2048x512.Idx → Elt Ideal .i8) (X6 : S8x512.Idx → Elt Ideal .i32) (r : Fin 1024) (c : Fin 512)

theorem row0_at : row0 X6 (ix2 0 c) = X6 (ix2 0 c) := by pointwise [row0]
theorem row1_at : row1 X6 (ix2 0 c) = X6 (ix2 1 c) := by pointwise [row1]
theorem row2_at : row2 X6 (ix2 0 c) = X6 (ix2 2 c) := by pointwise [row2]
theorem row3_at : row3 X6 (ix2 0 c) = X6 (ix2 3 c) := by pointwise [row3]

theorem accv_at (h0 : 0 ≤ (X6 (ix2 1 c) : BitVec 32).toInt) (h1 : (X6 (ix2 1 c) : BitVec 32).toInt ≤ 15) :
    accv X5 X6 (k0_pay21 X4) (ix2 r c)
      = (((dotZ (fun k => X4 (ix2 r k)) (fun k => X5 (ix2 k c)) (X6 (ix2 1 c)) : ℤ) : ℝ) : EReal) := by
  unfold accv
  pointwise [k0_pay3]
  have hr : ∀ k, rhsv X5 X6 (ix2 k c) = _ := fun k => by
    have e : rhsv X5 X6 (ix2 k c) = k0_pay28 (row1 X6) X5 (ix2 k c) := by pointwise [rhsv, k0_pay1]
    rw [e, pay28_at _ _ _ _ (by rw [row1_at]; exact h0) (by rw [row1_at]; exact h1), row1_at]
  simp only [pay21_at, hr]
  simp only [← EReal.coe_mul, ← coe_sum, ← Int.cast_mul, ← Int.cast_sum]
  rfl

theorem nibbles (w : BitVec 8) :
    IntOp.addi (IntOp.andi (IntOp.andi (IntOp.ori (w.setWidth 32) (IntOp.shli .vector (w.setWidth 32) 12#32)) 983055#32) 15#32)
      (IntOp.shrsi .vector (IntOp.andi (IntOp.ori (w.setWidth 32) (IntOp.shli .vector (w.setWidth 32) 12#32)) 983055#32) 16#32)
      = lo4 w + hi4 w := by
  revert w; decide

theorem colv_at : colv X2 X5 X6 (ix2 0 c) = colW (fun k => X5 (ix2 k c)) (word0 X2) (X6 (ix2 1 c)) (X6 (ix2 0 c)) := by
  unfold colv
  pointwise [k0_pay2, k0_pay22, k0_pay23, k0_pay27, k0_pay26]
  simp only [nibbles, fold_addi, row0_at, row1_at]
  rfl

/-- The path taken where the tile's word is not set. -/
theorem slow_word (v1 : BitVec 32) (v10 v12 v44 : IVec S1x512 32) (v59 : Vec Ideal S1024x512 .f32) :
    k0_pay5 (F := Ideal) v1 v12 (k0_pay8 (F := Ideal) v44 v59) (k0_pay10 (F := Ideal) v44 v59) (k0_pay17 (F := Ideal) v10 v44 v59)
      (k0_pay18 (F := Ideal) v10 v44 v59) (k0_pay19 (F := Ideal) v10 v44 v59) k0_pay20 (ix2 r c)
      = requant (k0_pay7 (F := Ideal) v44 v59 (ix2 r c)) (v10 (ix2 0 c)) (v12 (ix2 0 c)) v1 := by
  pointwise [k0_pay5, k0_pay8, k0_pay9, k0_pay10, k0_pay11, k0_pay12, k0_pay13, k0_pay14, k0_pay15, k0_pay16, k0_pay17, k0_pay18, k0_pay19, k0_pay20]
  generalize k0_pay7 (F := Ideal) v44 v59 (ix2 r c) = a
  generalize v10 (ix2 0 c) = m
  generalize v12 (ix2 0 c) = s
  simp only [fold_lo, fold_mid, fold_tmid, fold_low]
  simp only [flip_slt]
  simp only [cmpi_slt, cmpi_sgt, bit_word, select_bool, zero_subi, fold_low2, fold_high2, fold_rnd, fold_quot, fold_mask, fold_thr]
  rfl

/-- The path taken where the tile's word is set. -/
theorem fast_word (v0 : BitVec 32) (v10 v12 v44 : IVec S1x512 32) (acc : Vec Ideal S1024x512 .f32) (D : ℤ)
    (hacc : acc (ix2 r c) = ((D : ℝ) : EReal)) (hD : |D| ≤ 7864320)
    (hc0 : -1082130432 ≤ (v44 (ix2 0 c)).toInt) (hc1 : (v44 (ix2 0 c)).toInt ≤ 1082130432)
    (hm1 : 1073741824 ≤ (v10 (ix2 0 c)).toNat) (hm2 : (v10 (ix2 0 c)).toNat < 2147483648)
    (hs1 : 1 ≤ (v12 (ix2 0 c)).toNat) (hs2 : (v12 (ix2 0 c)).toNat ≤ 13) (hz0 : 0 ≤ v0.toInt) (hz : v0.toInt ≤ 255) :
    k0_pay4 (k0_pay6 (F := Ideal) v0 v10 v12 v44 acc) (ix2 r c)
      = requant (BitVec.ofInt 32 D + v44 (ix2 0 c)) (v10 (ix2 0 c)) (v12 (ix2 0 c)) v0 := by
  pointwise [k0_pay4, k0_pay6]
  rw [hacc]
  generalize v10 (ix2 0 c) = m at *
  generalize v12 (ix2 0 c) = s at *
  generalize v44 (ix2 0 c) = c2 at *
  exact fast_scalar D c2 m s v0 hD hc0 hc1 hm1 hm2 hs1 hs2 hz0 hz

theorem pay7_at (v44 : IVec S1x512 32) (acc : Vec Ideal S1024x512 .f32) (D : ℤ)
    (hacc : acc (ix2 r c) = ((D : ℝ) : EReal)) (hD : |D| ≤ 7864320) :
    k0_pay7 (F := Ideal) v44 acc (ix2 r c) = BitVec.ofInt 32 D + v44 (ix2 0 c) := by
  pointwise [k0_pay7]
  have := abs_le.1 hD
  rw [hacc, Ideal.liftRound_coe, roundHalfEven_int, fptosi_int D (by omega) (by omega)]
  rfl
end Block

end Cert.Value
-- ==== Proof.OutAt.lean ====
/- What the point stores at one element of its block, on either path, is the requantization of the reference's
   accumulator; the short path asks for the bounds its table checks. -/
module

public import proofs.«01_k».proof.Proof.Block

@[expose] public section

set_option maxRecDepth 16384

noncomputable section

namespace Cert.Value

open Cert.KernelIdeal Cert.KernelIdeal.Gen Cert.KernelIdeal.Body
open Idealize.ShloMosaic

/-- The bounds on the words of a column under which the short formula is right. -/
structure Small (za zc bias m0 s : BitVec 32) : Prop where
  s0 : 1 ≤ s.toInt
  s1 : s.toInt ≤ 13
  m0 : 1073741824 ≤ m0.toInt
  b0 : -1073741824 ≤ bias.toInt
  b1 : bias.toInt ≤ 1073741824
  c0 : 0 ≤ zc.toInt
  c1 : zc.toInt ≤ 255
  a0 : 0 ≤ za.toInt
  a1 : za.toInt ≤ 255

/-- A word of nonnegative value is its natural number. -/
theorem toNat_of_pos (x : BitVec 32) (h : 0 ≤ x.toInt) : (x.toNat : ℤ) = x.toInt ∧ x.toNat < 2147483648 := by
  have := x.isLt
  rw [BitVec.toInt_eq_toNat_cond] at h ⊢
  split at h <;> rename_i hh
  · rw [if_pos hh]; omega
  · omega

theorem pay24_at (X6 : S8x512.Idx → Elt Ideal .i32) (c : Fin 512) : k0_pay24 (F := Ideal) (row2 X6) (ix2 0 c) = X6 (ix2 2 c) := by
  rw [← row2_at X6 c]
  pointwise [k0_pay24]
theorem pay25_at (X6 : S8x512.Idx → Elt Ideal .i32) (c : Fin 512) : k0_pay25 (F := Ideal) (row3 X6) (ix2 0 c) = X6 (ix2 3 c) := by
  rw [← row3_at X6 c]
  pointwise [k0_pay25]

/-- What the point stores at an element of its block. -/
theorem outv_at (i : grid0.Coords) (X2 : S2.Idx → Elt Ideal .i32) (X3 : S22.Idx → Elt Ideal .i32) (X4 Xm : S1024x4096.Idx → Elt Ideal .i8)
    (X5 : S2048x512.Idx → Elt Ideal .i8) (X6 : S8x512.Idx → Elt Ideal .i32) (X8 : S1024x4096.Idx → Elt Ideal .bf16)
    (r : Fin 1024) (c : Fin 512) (hL : lhsv i X4 X8 = k0_pay21 (F := Ideal) Xm)
    (h0 : 0 ≤ (X6 (ix2 1 c) : BitVec 32).toInt) (h1 : (X6 (ix2 1 c) : BitVec 32).toInt ≤ 15)
    (hfast : k0_cond2 (tileWord i X3) = 1#1 → Small (word0 X2) (word1 X2) (X6 (ix2 0 c)) (X6 (ix2 2 c)) (X6 (ix2 3 c))) :
    outv i X2 X3 X4 X5 X6 X8 (ix2 r c)
      = requant (accRef (fun k => Xm (ix2 r k)) (fun k => X5 (ix2 k c)) (word0 X2) (X6 (ix2 1 c)) (X6 (ix2 0 c)))
          (X6 (ix2 2 c)) (X6 (ix2 3 c)) (word1 X2) := by
  unfold outv
  rw [hL, ← dot_col]
  have hacc := accv_at Xm X5 X6 r c h0 h1
  have hD := dotZ_bound (fun k => Xm (ix2 r k)) (fun k => X5 (ix2 k c)) (X6 (ix2 1 c)) h0 h1
  by_cases hc : k0_cond2 (tileWord i X3) = 1#1
  · obtain ⟨s0, s1, m0, b0, b1, c0, c1, a0, a1⟩ := hfast hc
    rw [if_pos hc]
    unfold fastv
    have hW := colW_int (fun k => X5 (ix2 k c)) (word0 X2) (X6 (ix2 1 c)) (X6 (ix2 0 c)) h0 h1 a0 a1 b0 b1
    have hs := toNat_of_pos (X6 (ix2 3 c)) (by omega)
    have hm := toNat_of_pos (X6 (ix2 2 c)) (by omega)
    rw [fast_word r c (word1 X2) _ _ _ _ _ hacc hD (by rw [colv_at]; exact hW.1) (by rw [colv_at]; exact hW.2)
      (by rw [pay24_at]; omega) (by rw [pay24_at]; exact hm.2) (by rw [pay25_at]; omega) (by rw [pay25_at]; omega) c0 c1,
      colv_at, pay24_at, pay25_at]
  · rw [if_neg hc]
    unfold slowv
    rw [slow_word, pay7_at r c _ _ _ hacc hD, colv_at, pay24_at, pay25_at]

end Cert.Value
-- ==== Proof.HostRead.lean ====
/- What the host lines before the kernel leave in the buffers the kernel reads: the stacked column parameters, the two
   words, the activations as rows, and the table of column tiles on which the short formula is right. -/
module

public import proofs.«01_k».proof.Proof.FrameIdeal
public import proofs.«01_k».proof.Proof.OutAt
public import Idealize.ShloMosaic.Lib.StableHlo.ReadAt

@[expose] public section

set_option maxRecDepth 16384

noncomputable section

namespace Cert.Value.Host

open Cert.KernelIdeal Cert.KernelIdeal.Gen Cert.KernelIdeal.Body Cert.KernelIdeal.Run
open Idealize.ShloMosaic Idealize.ShloMosaic.TcCoe
open Idealize.SL.Sem

variable {F : FTy → Type} [FloatOps F]
variable (m : (ℓ : Loc nD τ sig) → Buf (Elt F) ℓ)

/-- Device `c`'s arguments, before the run. -/
abbrev arg (c : Dev nD) (b : Ref sig .tc) : Buf (Elt F) ((c : Thread nD τ).loc b) := m (c, Proc.devRef .tc b)

theorem par0 (c : Dev nD) (j : Fin 11008) : (V m c main_v9 : S8x11008.Idx → BitVec 32) (ix2 0 j) = (arg m c main_arg4 : S11008.Idx → BitVec 32) (ix1 j) := by
  unfold V V0
  after_reads_at
  after_reads_simp
  pointwise
theorem par1 (c : Dev nD) (j : Fin 11008) : (V m c main_v9 : S8x11008.Idx → BitVec 32) (ix2 1 j) = (arg m c main_arg3 : S11008.Idx → BitVec 32) (ix1 j) := by
  unfold V V0
  after_reads_at
  after_reads_simp
  pointwise
theorem par2 (c : Dev nD) (j : Fin 11008) : (V m c main_v9 : S8x11008.Idx → BitVec 32) (ix2 2 j) = (arg m c main_arg5 : S11008.Idx → BitVec 32) (ix1 j) := by
  unfold V V0
  after_reads_at
  after_reads_simp
  pointwise
theorem par3 (c : Dev nD) (j : Fin 11008) : (V m c main_v9 : S8x11008.Idx → BitVec 32) (ix2 3 j) = (arg m c main_arg6 : S11008.Idx → BitVec 32) (ix1 j) := by
  unfold V V0
  after_reads_at
  after_reads_simp
  pointwise
theorem scal0 (c : Dev nD) : (V m c main_v12 : S2.Idx → BitVec 32) (ix1 0) = (arg m c main_arg1 : S_.Idx → BitVec 32) ix0 := by
  unfold V V0
  after_reads_at
theorem rows (c : Dev nD) (b : Fin 4) (s : Fin 1792) (k : Fin 4096) : (V m c main_v43 : S7168x4096.Idx → BitVec 8) (ix2 ⟨b.val * 1792 + s.val, by omega⟩ k) = (arg m c main_arg0 : S4x1792x4096.Idx → BitVec 8) (ix3 b s k) := by
  unfold V V0
  after_reads_at

theorem scal1 (c : Dev nD) : (V m c main_v12 : S2.Idx → BitVec 32) (ix1 1) = (arg m c main_arg7 : S_.Idx → BitVec 32) ix0 := by
  unfold V V0
  after_reads_at
theorem weights (c : Dev nD) : V m c main_arg2 = arg m c main_arg2 := by
  unfold V V0
  after_reads_simp

theorem and_bit (x y : BitVec 1) (h : IntOp.andi x y = 1#1) : x = 1#1 ∧ y = 1#1 := by
  revert x y; decide
theorem of_bool (b : Bool) (h : BitVec.ofBool b = 1#1) : b = true := by
  revert b; decide
theorem sge_bit (x y : BitVec 32) (h : IntOp.cmpi .sge x y = 1#1) : y.toInt ≤ x.toInt := by
  simpa [BitVec.sle] using of_bool (y.sle x) h
theorem sle_bit (x y : BitVec 32) (h : IntOp.cmpi .sle x y = 1#1) : x.toInt ≤ y.toInt := by
  simpa [BitVec.sle] using of_bool (x.sle y) h

/-- A conjunction of bits is set only where each bit is. -/
theorem fold_bit {ι : Type} (f : ι → BitVec 1) (S : Finset ι) (h : Finset.fold IntOp.andi (1#1) f S = 1#1) : ∀ x ∈ S, f x = 1#1 := by
  classical
  induction S using Finset.induction_on with
  | empty => intro x hx; exact absurd hx (Finset.notMem_empty x)
  | insert a S ha ih =>
    rw [Finset.fold_insert ha] at h
    obtain ⟨h1, h2⟩ := and_bit _ _ h
    intro x hx
    rcases Finset.mem_insert.1 hx with rfl | hx
    · exact h1
    · exact ih h2 x hx

theorem cond2_bit (x : BitVec 1) (h : k0_cond2 (x.setWidth 32) = 1#1) : x = 1#1 := by
  revert x; decide

/-- Where a column tile's word is set, each column of the tile that is inside the arrays has small words. -/
theorem tab_small (c : Dev nD) (n : Fin 22) (q : Fin 512) (hq : n.val * 512 + q.val < 11008)
    (h : k0_cond2 ((V m c main_v42 : S22.Idx → BitVec 32) (ix1 n)) = 1#1) :
    Small ((arg m c main_arg1 : S_.Idx → BitVec 32) ix0) ((arg m c main_arg7 : S_.Idx → BitVec 32) ix0)
      ((arg m c main_arg4 : S11008.Idx → BitVec 32) (ix1 ⟨n.val * 512 + q.val, hq⟩))
      ((arg m c main_arg5 : S11008.Idx → BitVec 32) (ix1 ⟨n.val * 512 + q.val, hq⟩))
      ((arg m c main_arg6 : S11008.Idx → BitVec 32) (ix1 ⟨n.val * 512 + q.val, hq⟩)) := by
  revert h
  generalize hT : (V m c main_v42 : S22.Idx → BitVec 32) (ix1 n) = T
  unfold V V0 at hT
  revert hT
  after_reads_at
  intro hT h
  rw [← hT] at h
  have hx := fold_bit _ _ (cond2_bit _ h) q (Finset.mem_univ q)
  beta_reduce at hx
  rw [dif_pos hq] at hx
  obtain ⟨hx, a1⟩ := and_bit _ _ hx
  obtain ⟨hx, a0⟩ := and_bit _ _ hx
  obtain ⟨hx, c1⟩ := and_bit _ _ hx
  obtain ⟨hx, c0⟩ := and_bit _ _ hx
  obtain ⟨hx, b1⟩ := and_bit _ _ hx
  obtain ⟨hx, b0⟩ := and_bit _ _ hx
  obtain ⟨hx, m0⟩ := and_bit _ _ hx
  obtain ⟨s0, s1⟩ := and_bit _ _ hx
  exact ⟨sge_bit _ _ s0, sle_bit _ _ s1, sge_bit _ _ m0, sge_bit _ _ b0, sle_bit _ _ b1, sge_bit _ _ c0, sle_bit _ _ c1,
    sge_bit _ _ a0, sle_bit _ _ a1⟩

end Cert.Value.Host
-- ==== Proof.Blocks.lean ====
/- What the input windows hold at a point, read at an index inside the arrays. -/
module

public import proofs.«01_k».proof.Proof.FrameIdeal
public import Idealize.ShloMosaic.Lib.Pipeline.ValueKit
public import Idealize.ShloMosaic.Lib.Pipeline.Covers

@[expose] public section

set_option maxRecDepth 16384

noncomputable section

namespace Cert.Value.Blocks

open Cert.KernelIdeal Cert.KernelIdeal.Gen Cert.KernelIdeal.Body Cert.KernelIdeal.Run
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ)

/-- A filled block inside the part that is moved. -/
theorem fill_at {sg : RefSig} {G : Pipeline.Grid} (w : Window sg G) {α : Type} (i : G.Coords) (d : w.block.Idx → α) (g : (w.xblock i).Idx → α) (j : w.block.Idx)
    (h : ∀ a, (j a).val < w.xsize i a) : w.fill i d g j = g fun a => ⟨(j a).val, h a⟩ := by
  unfold Window.fill; rw [dif_pos ((w.moved_iff i j).mpr h)]

/-- A coordinate of a block inside the array is one the transfer moves, and conversely. -/
theorem extent_iff {ix k d j : ℕ} (h : ix * k < d) : j < (Pipeline.Clip.of ix k d).extent k ↔ j < k ∧ ix * k + j < d := by
  unfold Pipeline.Clip.of
  split <;> rename_i hh
  · rw [Nat.succ_mul] at hh; show j < k ↔ _; omega
  · rw [Nat.succ_mul] at hh; show j < d - ix * k ↔ _; omega

theorem tr0 (i : grid0.Coords) : cc0_transform_0 i = ![(i 0).val, 0] := by
  have h : (i 0).val < 7 := (i 0).isLt
  unfold cc0_transform_0
  simp only [BitVec.toNat_ofNat]
  rw [Nat.mod_eq_of_lt (by omega)]
theorem tr1 (i : grid0.Coords) : cc0_transform_1 i = ![0, (i 1).val] := by
  have h : (i 1).val < 22 := (i 1).isLt
  unfold cc0_transform_1
  simp only [BitVec.toNat_ofNat]
  rw [Nat.mod_eq_of_lt (by omega : (i 1).val < 2 ^ 32)]
theorem tr2 (i : grid0.Coords) : cc0_transform_2 i = ![0, (i 1).val] := tr1 i
theorem tr3 (i : grid0.Coords) : cc0_transform_3 i = ![(i 0).val, (i 1).val] := by
  have h : (i 1).val < 22 := (i 1).isLt
  have h0 : (i 0).val < 7 := (i 0).isLt
  unfold cc0_transform_3
  simp only [BitVec.toNat_ofNat]
  rw [Nat.mod_eq_of_lt (by omega : (i 1).val < 2 ^ 32), Nat.mod_eq_of_lt (by omega : (i 0).val < 2 ^ 32)]

/-- The row tile and the column tile of a point. -/
def mt (t : Fin (cfgM m).N) : Fin 7 := grid0.coords t 0
def nt (t : Fin (cfgM m).N) : Fin 22 := grid0.coords t 1

theorem N_cols (t : Fin (cfgM m).N) (q : Fin 512) (hq : (nt m t).val * 512 + q.val < 11008) : q.val < (Pipeline.Clip.of (cc0_transform_1 (grid0.coords t) 1) 512 11008).extent 512 := by
  rw [tr1]
  exact (extent_iff (by show (nt m t).val * 512 < 11008; omega)).2 ⟨q.isLt, hq⟩

theorem N_rows2048 (t : Fin (cfgM m).N) (k : Fin 2048) : k.val < (Pipeline.Clip.of (cc0_transform_1 (grid0.coords t) 0) 2048 2048).extent 2048 := by
  rw [tr1]
  exact (extent_iff (by show 0 * 2048 < 2048; omega)).2 ⟨k.isLt, by have := k.isLt; show 0 * 2048 + k.val < 2048; omega⟩
theorem N_rows8 (t : Fin (cfgM m).N) (k : Fin 8) : k.val < (Pipeline.Clip.of (cc0_transform_1 (grid0.coords t) 0) 8 8).extent 8 := by
  rw [tr1]
  exact (extent_iff (by show 0 * 8 < 8; omega)).2 ⟨k.isLt, by have := k.isLt; show 0 * 8 + k.val < 8; omega⟩
theorem in0 (c : Dev nD) (t : Fin (cfgM m).N) (r : Fin 1024) (k : Fin 4096) :
    inBlk m c 0 t (ix2 r k) = V m c main_v43 (ix2 ⟨(mt m t).val * 1024 + r.val, by have := (mt m t).isLt; omega⟩ k) := by
  unfold inBlk
  rw [fill_at _ _ _ _ _ (fun a => by fin_cases a; exacts [r.isLt, k.isLt])]
  refine congrArg (V m c main_v43) (funext fun a => Fin.ext ?_)
  refine (Window.rect_emb_val ((cfgM m).win 0) t _ a rfl).trans ?_
  rw [show ((cfgM m).win 0).index t = _ from tr0 _]
  fin_cases a
  · rfl
  · exact Nat.zero_add _

variable (out : Fin (cfgM m).N → S1024x512.Idx → Elt F .i8)

theorem in1 (PHI) (c : Dev nD) (t : Fin (cfgM m).N) (d) (k : Fin 2048) (q : Fin 512) (hq : (nt m t).val * 512 + q.val < 11008) :
    (dat m out PHI 0 c).fetched 1 t d (ix2 k q) = V m c main_arg2 (ix2 k ⟨(nt m t).val * 512 + q.val, hq⟩) := by
  unfold Dat.fetched
  refine (fill_at _ _ _ _ _ (fun a => by
    fin_cases a
    · exact N_rows2048 m t k
    · exact N_cols m t q hq)).trans ?_
  refine congrArg (V m c main_arg2) (funext fun a => Fin.ext ?_)
  refine (Window.rect_emb_val ((cfgM m).win 1) t _ a rfl).trans ?_
  rw [show ((cfgM m).win 1).index t = _ from tr1 _]
  fin_cases a
  · exact Nat.zero_add _
  · rfl

theorem in2 (PHI) (c : Dev nD) (t : Fin (cfgM m).N) (d) (k : Fin 8) (q : Fin 512) (hq : (nt m t).val * 512 + q.val < 11008) :
    (dat m out PHI 0 c).fetched 2 t d (ix2 k q) = V m c main_v9 (ix2 k ⟨(nt m t).val * 512 + q.val, hq⟩) := by
  unfold Dat.fetched
  refine (fill_at _ _ _ _ _ (fun a => by
    fin_cases a
    · exact N_rows8 m t k
    · exact N_cols m t q hq)).trans ?_
  refine congrArg (V m c main_v9) (funext fun a => Fin.ext ?_)
  refine (Window.rect_emb_val ((cfgM m).win 2) t _ a rfl).trans ?_
  rw [show ((cfgM m).win 2).index t = _ from tr2 _]
  fin_cases a
  · exact Nat.zero_add _
  · rfl

/-- The columns of the output's block inside the array. -/
theorem out_cols (t : Fin (cfgM m).N) (y : (((cfgM m).win 3).xblock ((cfgM m).grid.coords t)).Idx) :
    (y (0 : Fin 2)).val < 1024 ∧ (y (1 : Fin 2)).val < 512 ∧ (nt m t).val * 512 + (y (1 : Fin 2)).val < 11008 := by
  have h0 : (y (0 : Fin 2)).val < (Pipeline.Clip.of (cc0_transform_3 (grid0.coords t) 0) 1024 7168).extent 1024 := (y (0 : Fin 2)).isLt
  have h1 : (y (1 : Fin 2)).val < (Pipeline.Clip.of (cc0_transform_3 (grid0.coords t) 1) 512 11008).extent 512 := (y (1 : Fin 2)).isLt
  rw [tr3] at h0 h1
  have hm := (mt m t).isLt
  have hn := (nt m t).isLt
  have h0' := (extent_iff (by show (mt m t).val * 1024 < 7168; omega)).1 h0
  have h1' := (extent_iff (by show (nt m t).val * 512 < 11008; omega)).1 h1
  exact ⟨h0'.1, h1'⟩

/-- Where the output's block sits in its array. -/
theorem out_emb (t : Fin (cfgM m).N) (y : (((cfgM m).win 3).xblock ((cfgM m).grid.coords t)).Idx) :
    (((cfgM m).win 3).blk t).view.emb y
      = (ix2 ⟨(mt m t).val * 1024 + (y (0 : Fin 2)).val, by have := (mt m t).isLt; have := out_cols m t y; omega⟩ ⟨(nt m t).val * 512 + (y (1 : Fin 2)).val, (out_cols m t y).2.2⟩ : S7168x11008.Idx) := by
  refine funext fun a => Fin.ext ?_
  refine (Window.rect_emb_val ((cfgM m).win 3) t _ a rfl).trans ?_
  rw [show ((cfgM m).win 3).index t = _ from tr3 _]
  fin_cases a <;> rfl

theorem out_xinj (t : Fin (cfgM m).N) (y : (((cfgM m).win 3).xblock ((cfgM m).grid.coords t)).Idx) :
    ((cfgM m).win 3).xinj ((cfgM m).grid.coords t) y = (ix2 ⟨(y (0 : Fin 2)).val, (out_cols m t y).1⟩ ⟨(y (1 : Fin 2)).val, (out_cols m t y).2.1⟩ : S1024x512.Idx) := by
  refine funext fun a => Fin.ext ?_
  fin_cases a <;> rfl

/-- The output's blocks fill its array. -/
theorem covers : ((cfgM m).win 3).Covers := by
  refine ((cfgM m).win 3).covers_of_indexMap_surj rfl (fun a => by fin_cases a <;> exact Nat.succ_pos _) fun β => ?_
  have h0 : (β (0 : Fin 2)).val < 7 := lt_of_lt_of_eq (β (0 : Fin 2)).isLt (by show (7168 + 1024 - 1) / 1024 = 7; rfl)
  have h1 : (β (1 : Fin 2)).val < 22 := lt_of_lt_of_eq (β (1 : Fin 2)).isLt (by show (11008 + 512 - 1) / 512 = 22; rfl)
  refine ⟨Fin.cons (⟨_, h0⟩ : Fin 7) (Fin.cons (⟨_, h1⟩ : Fin 22) fun a => a.elim0), fun a => ?_⟩
  refine (congrFun (tr3 _) a).trans ?_
  fin_cases a <;> rfl

end Cert.Value.Blocks
-- ==== Proof.Point.lean ====
/- What each point of the grid stores, over the ideal values, as one function of the buffers the region is entered with:
   the requantization, at each element, of the reference's accumulator. -/
module

public import proofs.«01_k».proof.Proof.HostRead
public import proofs.«01_k».proof.Proof.Blocks

@[expose] public section

set_option maxRecDepth 16384

noncomputable section

namespace Cert.Value.Point

open Cert.KernelIdeal Cert.KernelIdeal.Gen Cert.KernelIdeal.Body Cert.KernelIdeal.Run
open Cert.Value.Host Cert.Value.Blocks
open Idealize.ShloMosaic Idealize.ShloMosaic.TcCoe
open Idealize.SL.Sem
open Idealize.ShloMosaic.Pipeline (Dat Cfg Window BodyObligationLoose)

variable (m : (ℓ : Loc nD τ sig) → Buf (Elt Ideal) ℓ)

/-- The element of the kernel's array at a row and a column, of the arguments. -/
def elem (R : Fin 7168) (j : Fin 11008) : BitVec 8 :=
  requant
    (accRef (fun k => (V m 0 main_v43 : S7168x4096.Idx → BitVec 8) (ix2 R k)) (fun k => (V m 0 main_arg2 : S2048x11008.Idx → BitVec 8) (ix2 k j))
      ((arg m 0 main_arg1 : S_.Idx → BitVec 32) ix0) ((arg m 0 main_arg3 : S11008.Idx → BitVec 32) (ix1 j))
      ((arg m 0 main_arg4 : S11008.Idx → BitVec 32) (ix1 j)))
    ((arg m 0 main_arg5 : S11008.Idx → BitVec 32) (ix1 j)) ((arg m 0 main_arg6 : S11008.Idx → BitVec 32) (ix1 j))
    ((arg m 0 main_arg7 : S_.Idx → BitVec 32) ix0)

/-- The kernel's array. -/
def G : S7168x11008.Idx → BitVec 8 := fun i => elem m (i 0) (i 1)

/-- The block a point stores: the array's block, anything beyond the array. -/
def out (t : Fin (cfgM m).N) : S1024x512.Idx → Elt Ideal .i8 := fun y =>
  if h : (nt m t).val * 512 + (y 1).val < 11008 then
    elem m ⟨(mt m t).val * 1024 + (y 0).val, by have := (mt m t).isLt; have : (y 0).val < 1024 := (y 0).isLt; omega⟩ ⟨_, h⟩
  else 0#8

/-- The activations' block of a row tile. -/
def xblk (M : ℕ) : S1024x4096.Idx → Elt Ideal .i8 := fun i =>
  if h : M < 7 then (V m 0 main_v43 : S7168x4096.Idx → BitVec 8) (ix2 ⟨M * 1024 + (i 0).val, by have : (i 0).val < 1024 := (i 0).isLt; omega⟩ (i 1))
  else 0#8

/-- Between the column tiles of one row tile the first scratch buffer holds the row tile's block, converted. -/
def good (t : Fin ((cfgM m).N + 1)) (X8 : S1024x4096.Idx → Elt Ideal .bf16) : Prop :=
  t.val % 22 ≠ 0 → X8 = k0_pay21 (F := Ideal) (xblk m (t.val / 22))

theorem tiles : ∀ t : Fin grid0.N, (grid0.coords t 0).val = t.val / 22 ∧ (grid0.coords t 1).val = t.val % 22
    ∧ (cond1 (grid0.coords t) = 1#1 ↔ t.val % 22 = 0) := by decide +kernel
theorem mt_val (t : Fin (cfgM m).N) : (mt m t).val = t.val / 22 := (tiles t).1
theorem nt_val (t : Fin (cfgM m).N) : (nt m t).val = t.val % 22 := (tiles t).2.1
theorem cond1_iff (t : Fin (cfgM m).N) : cond1 (grid0.coords t) = 1#1 ↔ t.val % 22 = 0 := (tiles t).2.2

theorem dev0 (c : Dev nD) : c = 0 := Subsingleton.elim _ _

theorem xblk_at (M : ℕ) (h : M < 7) (r : Fin 1024) (k : Fin 4096) : xblk m M (ix2 r k)
    = (V m 0 main_v43 : S7168x4096.Idx → BitVec 8) (ix2 ⟨M * 1024 + r.val, by omega⟩ k) := by
  unfold xblk
  exact dif_pos h

/-- The staged block of the activations is the row tile's. -/
theorem inBlk_eq (c : Dev nD) (t : Fin (cfgM m).N) : inBlk m c 0 t = xblk m (t.val / 22) := by
  obtain rfl := dev0 c
  rw [← mt_val m t]
  refine funext fun (i : S1024x4096.Idx) => ?_
  idx_vars i
  exact (in0 m 0 t i0 i1).trans (xblk_at m _ (mt m t).isLt i0 i1).symm

theorem lhs_eq (c : Dev nD) (t : Fin (cfgM m).N) (X8) (h : good m t.castSucc X8) :
    lhsv (grid0.coords t) (inBlk m c 0 t) X8 = k0_pay21 (F := Ideal) (xblk m (t.val / 22)) := by
  unfold good at h
  rw [Fin.val_castSucc] at h
  unfold lhsv
  by_cases hc : cond1 (grid0.coords t) = 1#1
  · rw [if_pos hc, inBlk_eq]
  · rw [if_neg hc]
    exact h fun e => hc ((cond1_iff m t).2 e)

theorem good_zero (X8) : good m 0 X8 := by
  intro h
  rw [Fin.val_zero] at h
  exact absurd rfl h

theorem good_succ (c : Dev nD) (t : Fin (cfgM m).N) (X8) (h : good m (Fin.castSucc t) X8) :
    good m (Fin.succ t) (lhsv (grid0.coords t) (inBlk m c 0 t) X8) := by
  intro hn
  rw [lhs_eq m c t X8 h]
  have e : (Fin.succ t).val = t.val + 1 := rfl
  rw [e] at hn ⊢
  rw [show (t.val + 1) / 22 = t.val / 22 by omega]

theorem off_val : ∀ n : Fin 22, BitVec.toNat (Scalar.indexCast (BitVec.ofNat 32 n.val)) = n.val := by decide
theorem word0_at : word0 (tb0 m) = (arg m 0 main_arg1 : S_.Idx → BitVec 32) ix0 := by
  rw [← scal0]
  pointwise [word0]
  rfl
theorem word1_at : word1 (tb0 m) = (arg m 0 main_arg7 : S_.Idx → BitVec 32) ix0 := by
  rw [← scal1]
  pointwise [word1]
  rfl
theorem tileWord_at (t : Fin (cfgM m).N) : tileWord (grid0.coords t) (tb1 m) = (V m 0 main_v42 : S22.Idx → BitVec 32) (ix1 (nt m t)) := by
  unfold tileWord
  pointwise [k0_off1]
  have h : (⟨BitVec.toNat (Scalar.indexCast (BitVec.ofNat 32 (grid0.coords t 1).val)), lt_of_eq_of_lt (off_val (nt m t)) (nt m t).isLt⟩ : Fin 22) = nt m t :=
    Fin.ext (off_val (nt m t))
  exact congrArg (fun n => (V m 0 main_v42 : S22.Idx → BitVec 32) (ix1 n)) h

/-- The precondition, at one column. -/
def Zeros : Prop := ∀ j : Fin 11008, 0 ≤ ((arg m 0 main_arg3 : S11008.Idx → BitVec 32) (ix1 j)).toInt ∧ ((arg m 0 main_arg3 : S11008.Idx → BitVec 32) (ix1 j)).toInt ≤ 15

/-- A point's store is the array's element, wherever the block lies within the array. -/
theorem store_at (hz : Zeros m) (PHI) (c : Dev nD) (t : Fin (cfgM m).N) (d1 d2) (X8) (h : good m t.castSucc X8) (r : Fin 1024) (q : Fin 512)
    (hq : (nt m t).val * 512 + q.val < 11008) :
    outv (grid0.coords t) (tb0 m) (tb1 m) (inBlk m c 0 t) ((dat m (out m) PHI 0 c).fetched 1 t d1) ((dat m (out m) PHI 0 c).fetched 2 t d2) X8 (ix2 r q)
      = elem m ⟨(mt m t).val * 1024 + r.val, by have := (mt m t).isLt; omega⟩ ⟨(nt m t).val * 512 + q.val, hq⟩ := by
  obtain rfl := dev0 c
  have e (k : Fin 8) := in2 m (out m) PHI 0 t d2 k q hq
  have e0 := (e 0).trans (par0 m 0 _)
  have e1 := (e 1).trans (par1 m 0 _)
  have e2 := (e 2).trans (par2 m 0 _)
  have e3 := (e 3).trans (par3 m 0 _)
  have hM : t.val / 22 < 7 := by rw [← mt_val m t]; exact (mt m t).isLt
  have hx : (fun k => xblk m (t.val / 22) (ix2 r k)) = fun k => (V m 0 main_v43 : S7168x4096.Idx → BitVec 8) (ix2 ⟨(mt m t).val * 1024 + r.val, by have := (mt m t).isLt; omega⟩ k) :=
    funext fun k => by rw [← mt_val m t]; exact xblk_at m _ (mt m t).isLt r k
  have hw : (fun k => (dat m (out m) PHI 0 0).fetched 1 t d1 (ix2 k q)) = fun k => V m 0 main_arg2 (ix2 k ⟨(nt m t).val * 512 + q.val, hq⟩) :=
    funext fun k => in1 m (out m) PHI 0 t d1 k q hq
  refine (outv_at (grid0.coords t) (tb0 m) (tb1 m) (inBlk m 0 0 t) (xblk m (t.val / 22)) _ _ X8 r q (lhs_eq m 0 t X8 h) ?_ ?_ ?_).trans ?_
  · rw [e1]; exact (hz _).1
  · rw [e1]; exact (hz _).2
  · intro hc
    rw [tileWord_at] at hc
    rw [e0, e2, e3, word0_at, word1_at]
    exact tab_small m 0 (nt m t) q hq hc
  · rw [e0, e1, e2, e3, word0_at, word1_at, hx, hw]
    rfl

/-- A point's store, cut to the array, is the array's block. -/
theorem cut_out (hz : Zeros m) (PHI) (c : Dev nD) (t : Fin (cfgM m).N) (d1 d2) (X8) (h : good m t.castSucc X8) :
    ((cfgM m).win 3).cut ((cfgM m).grid.coords t) (out m t) = ((cfgM m).win 3).cut ((cfgM m).grid.coords t)
      (outv (grid0.coords t) (tb0 m) (tb1 m) (inBlk m c 0 t) ((dat m (out m) PHI 0 c).fetched 1 t d1) ((dat m (out m) PHI 0 c).fetched 2 t d2) X8) := by
  funext y
  show out m t (((cfgM m).win 3).xinj ((cfgM m).grid.coords t) y) = outv _ _ _ _ _ _ _ (((cfgM m).win 3).xinj ((cfgM m).grid.coords t) y)
  rw [out_xinj m t y]
  refine Eq.trans ?_ (store_at m hz PHI c t d1 d2 X8 h _ _ (out_cols m t y).2.2).symm
  unfold out
  exact dif_pos (out_cols m t y).2.2

end Cert.Value.Point
-- ==== Proof.Launch.lean ====
/- The kernel's result over the ideal values: what its array, and the reshape after it, hold at every run's end. -/
module

public import proofs.«01_k».proof.Proof.Point

@[expose] public section

set_option maxRecDepth 16384

noncomputable section

namespace Cert.Value.Launch

open Cert.KernelIdeal Cert.KernelIdeal.Gen Cert.KernelIdeal.Body Cert.KernelIdeal.Run
open Cert.Value.Host Cert.Value.Blocks Cert.Value.Point
open Idealize.ShloMosaic Idealize.ShloMosaic.TcCoe
open Idealize.SL.Sem
open Idealize.ShloMosaic.Pipeline (Dat Cfg Window BodyObligationLoose)

variable (m : (ℓ : Loc nD τ sig) → Buf (Elt Ideal) ℓ)

/-- The proof data of the launch. -/
abbrev D (p : Fin 1) (c : Dev nD) := dat m (out m) (PhiG m (good m)) p c

theorem final (c : Dev nD) : (D m 0 c).arrAt 3 (cfgM m).N = G m := by
  refine (D m 0 c).arrAt_eq_of_covers 3 (G m) (covers m) fun t _ y => ?_
  refine Eq.trans (b := out m t (((cfgM m).win 3).xinj ((cfgM m).grid.coords t) y)) rfl ?_
  rw [out_xinj m t y, out_emb m t y]
  unfold out
  exact dif_pos (out_cols m t y).2.2

/-- The result of the kernel: the array in the shape the reshape gives it. -/
def Y : S4x1792x11008.Idx → BitVec 8 := fun i =>
  elem m ⟨(i 0).val * 1792 + (i 1).val, by have : (i 0).val < 4 := (i 0).isLt; have : (i 1).val < 1792 := (i 1).isLt; omega⟩ (i 2)

theorem reshape_at (W : Valuation τ sig (Elt Ideal)) (b : Fin 4) (s : Fin 1792) (j : Fin 11008) :
    (StableHlo.after (hostOps1 (F := Ideal)) W (Proc.devRef .tc main_v45) : S4x1792x11008.Idx → BitVec 8) (ix3 b s j)
      = (W (Proc.devRef .tc main_v44) : S7168x11008.Idx → BitVec 8) (ix2 ⟨b.val * 1792 + s.val, by omega⟩ j) := by
  after_reads_at

theorem tail_at (c : Dev nD) : Pipeline.afterTail (pcfgs (F := Ideal)) (adm m) (D m) 0 (V0 m) [hostOps1] c main_v45 = Y m := by
  refine funext fun (i : S4x1792x11008.Idx) => ?_
  idx_vars i
  unfold Pipeline.afterTail
  refine (reshape_at _ i0 i1 i2).trans ?_
  have e := Pipeline.withArrays_arr (cfgM m).spec (launch0 (F := Ideal)).win.arr_inj c (V0 m c) (fun w => (D m 0 c).arrAt w (cfgM m).N) (3 : Fin 4)
  have e' := e.trans (final m c)
  exact congrFun e' _

theorem v45_rest : main_v45 ∈ Pipeline.restRefs sig spec0 := by decide +kernel

/-- Every run of the kernel ends with the result at `Y`. -/
theorem run_value (hz : Zeros m) (ρ : Dev nD → PrngReg) :
    θ_run (defs (F := Ideal)) (onTc main) ⟨m, fun _ => 0, ρ⟩ (fun r => ∀ c : Dev nD, r.2.mem ((c : Thread nD τ).loc main_v45) = Y m) := by
  refine Pipeline.θ_run_frameP_around_track (pcfgs (F := Ideal)) (adm m) (D m) 0 launch0 defs₀ 𝒱₀
    m ρ main (fun c => body_value m (out m) (good m) c (good_succ m c) (cut_out m hz (PhiG m (good m)) c)) ?_ (fun _ _ => rfl) (V0 m) [hostOps1]
    (tail_sub hostOps1_sub) ?_ ?_ (hmain m) (fun _ _ => rfl)
    (V_pre m) (fun c => PhiG_in m (good m) (good_zero m) c) (fun c => PhiG_out m (good m) c (Fin.last _)) _ ?_
  · intro c w; fin_cases w <;> rfl
  · intro ops hops op hop
    obtain rfl := List.mem_singleton.1 hops
    obtain rfl := List.mem_singleton.1 hop
    rfl
  · intro ops hops op hop w
    obtain rfl := List.mem_singleton.1 hops
    obtain rfl := List.mem_singleton.1 hop
    exact fun h => keep_arr w (Proc.devRef_injective _ (Finset.mem_singleton.mp h))
  · rintro r ⟨h, -⟩ c
    exact ((h c).2 main_v45 v45_rest).trans (tail_at m c)

end Cert.Value.Launch
-- ==== Proof.RefVal.lean ====
/- The reference's result at one element: the requantization of its accumulator. -/
module

public import proofs.«01_k».proof.Proof.Gen.ReferenceIdeal.Run
public import proofs.«01_k».proof.Proof.Block
public import Idealize.ShloMosaic.Lib.Tactic.CleanTypes

@[expose] public section

set_option maxRecDepth 16384

noncomputable section

namespace Cert.Value.Ref

open Cert.ReferenceIdeal Cert.ReferenceIdeal.Gen Cert.ReferenceIdeal.Value
open Idealize.ShloMosaic
open Idealize.SL.Sem

variable {F : FTy → Type} [FloatOps F]

/-- The reference's result, composed. -/
def result (V : Valuation τ sig (Elt F)) : S4x1792x11008.Idx → BitVec 8 :=
  trunci 8 (minsi (broadcastInDim S4x1792x11008 ![] bcast_S_S4x1792x11008 (id (constantI S_ 32 255#32))) (maxsi (broadcastInDim S4x1792x11008 ![] bcast_S_S4x1792x11008 (id (constantI S_ 32 0#32))) (addi (addi (Host.shrsi (res_main_v102 V) (broadcastInDim S4x1792x11008 ![0, 1, 2] bcast_S1x1x11008_S4x1792x11008_0_1_2 (broadcastInDim S1x1x11008 ![2] bcast_S11008_S1x1x11008_2 (V (Proc.devRef .tc main_arg6))))) (extui 32 (cmpi .sgt (andi (res_main_v102 V) (broadcastInDim S4x1792x11008 ![0, 1, 2] bcast_S1x1x11008_S4x1792x11008_0_1_2 (broadcastInDim S1x1x11008 ![2] bcast_S11008_S1x1x11008_2 (res_main_v106 V)))) (addi (broadcastInDim S4x1792x11008 ![0, 1, 2] bcast_S1x1x11008_S4x1792x11008_0_1_2 (broadcastInDim S1x1x11008 ![2] bcast_S11008_S1x1x11008_2 (Host.shrsi (res_main_v106 V) (broadcastInDim S11008 ![] bcast_S_S11008 (constantI S_ 32 1#32))))) (extui 32 (cmpi .slt (res_main_v102 V) (broadcastInDim S4x1792x11008 ![] bcast_S_S4x1792x11008 (constantI S_ 32 0#32))) natLt_1_32))) natLt_1_32)) (broadcastInDim S4x1792x11008 ![] bcast_S_S4x1792x11008 (V (Proc.devRef .tc main_arg7)))))) natLt_8_32

section At
variable (V : Valuation τ sig (Elt F)) (b : Fin 4) (s : Fin 1792) (c : Fin 11008)

/-- The accumulator, the multiplier, the shift and the zero point of an element. -/
def acc : BitVec 32 :=
  accRef (fun k => (V (Proc.devRef .tc main_arg0) : S4x1792x4096.Idx → BitVec 8) (ix3 b s k))
    (fun k => (V (Proc.devRef .tc main_arg2) : S2048x11008.Idx → BitVec 8) (ix2 k c))
    ((V (Proc.devRef .tc main_arg1) : S_.Idx → BitVec 32) ix0) ((V (Proc.devRef .tc main_arg3) : S11008.Idx → BitVec 32) (ix1 c))
    ((V (Proc.devRef .tc main_arg4) : S11008.Idx → BitVec 32) (ix1 c))
def mul : BitVec 32 := (V (Proc.devRef .tc main_arg5) : S11008.Idx → BitVec 32) (ix1 c)
def shift : BitVec 32 := (V (Proc.devRef .tc main_arg6) : S11008.Idx → BitVec 32) (ix1 c)
def zero : BitVec 32 := (V (Proc.devRef .tc main_arg7) : S_.Idx → BitVec 32) ix0

theorem host_shrui (x y : BitVec 32) : IntOp.shrui .host x y = IntOp.shrui .vector x y := shrui_unit _ _ _ _
theorem host_shli (x y : BitVec 32) : IntOp.shli .host x y = IntOp.shli .vector x y := shli_unit _ _ _ _
theorem host_shrsi (x y : BitVec 32) : IntOp.shrsi .host x y = IntOp.shrsi .vector x y := shrsi_unit _ _ _ _

theorem addi_eq (x y : BitVec 32) : IntOp.addi x y = x + y := rfl
theorem subi_eq (x y : BitVec 32) : IntOp.subi x y = x - y := rfl
theorem muli_eq (x y : BitVec 32) : IntOp.muli x y = x * y := rfl
theorem andi_eq (x y : BitVec 32) : IntOp.andi x y = x &&& y := rfl

theorem v45_at : (res_main_v45 V : S4x1792x11008.Idx → BitVec 32) (ix3 b s c) = acc V b s c := by
  generalize hA : acc V b s c = A
  unfold res_main_v45 res_main_v5 res_main_v2 res_main_v4 res_main_v0
  clean_types
  pointwise
  simp only [host_shrsi, fold_addi, addi_eq, subi_eq, muli_eq, andi_eq]
  rw [← hA]
  unfold acc accRef lo4 hi4
  beta_reduce
  with_reducible rfl

theorem v47_at : (res_main_v47 V : S4x1792x11008.Idx → BitVec 1) (ix3 b s c) = BitVec.ofBool (!(acc V b s c).slt 0#32) := by
  rw [← v45_at]
  unfold res_main_v47
  clean_types
  pointwise
  generalize (res_main_v45 V (ix3 b s c) : BitVec 32) = a
  show BitVec.ofBool (BitVec.sle 0#32 a) = _
  rw [BitVec.sle_eq_not_slt]
theorem v49_at : (res_main_v49 V : S4x1792x11008.Idx → BitVec 32) (ix3 b s c) = IntOp.absi (acc V b s c) := by
  have e : ∀ A : S4x1792x11008.Idx → BitVec 32,
      (id (absi A) : S4x1792x11008.Idx → BitVec 32) (ix3 b s c) = IntOp.absi (A (ix3 b s c)) := fun _ => rfl
  rw [← v45_at]
  exact e _
theorem v53_at : (res_main_v53 V : S4x1792x11008.Idx → BitVec 32) (ix3 b s c) = IntOp.shrui .vector (IntOp.absi (acc V b s c)) 16#32 := by
  rw [← v49_at]
  unfold res_main_v53
  clean_types
  pointwise
  exact host_shrui _ _
theorem v55_at : (res_main_v55 V : S4x1792x11008.Idx → BitVec 32) (ix3 b s c) = IntOp.andi (IntOp.absi (acc V b s c)) 65535#32 := by
  rw [← v49_at]
  unfold res_main_v55
  clean_types
  pointwise
theorem v57_at : (res_main_v57 V : S11008.Idx → BitVec 32) (ix1 c) = IntOp.shrui .vector (mul V c) 16#32 := by
  unfold res_main_v57 res_main_v50 mul
  clean_types
  simp only [id_eq]
  pointwise
  exact host_shrui _ _
theorem v59_at : (res_main_v59 V : S11008.Idx → BitVec 32) (ix1 c) = IntOp.andi (mul V c) 65535#32 := by
  unfold res_main_v59 res_main_v50 mul
  clean_types
  simp only [id_eq]
  pointwise
theorem v62_at : (res_main_v62 V : S4x1792x11008.Idx → BitVec 32) (ix3 b s c) = lo (acc V b s c) (mul V c) := by
  rw [← fold_lo, ← v55_at, ← v59_at]
  unfold res_main_v62
  clean_types
  pointwise
theorem v69_at : (res_main_v69 V : S4x1792x11008.Idx → BitVec 32) (ix3 b s c) = mid (acc V b s c) (mul V c) := by
  rw [← fold_mid, ← v55_at, ← v59_at, ← v53_at, ← v57_at]
  unfold res_main_v69
  clean_types
  pointwise
theorem v77_at : (res_main_v77 V : S4x1792x11008.Idx → BitVec 32) (ix3 b s c) = tmid (acc V b s c) (mul V c) := by
  rw [← fold_tmid, ← v62_at, ← v69_at]
  unfold res_main_v77
  clean_types
  pointwise
  rw [host_shrui]
theorem v84_at : (res_main_v84 V : S4x1792x11008.Idx → BitVec 32) (ix3 b s c) = low (acc V b s c) (mul V c) := by
  rw [← fold_low, ← v62_at, ← v77_at]
  unfold res_main_v84
  clean_types
  pointwise
  rw [host_shli]
theorem not_ite {α : Type} (p : Bool) (x y : α) : (if (!p) = true then x else y) = if p = true then y else x := by cases p <;> rfl
theorem v91_at : (res_main_v91 V : S4x1792x11008.Idx → BitVec 32) (ix3 b s c) = low2 (acc V b s c) (mul V c) := by
  rw [← fold_low2, ← v84_at, ← not_ite, ← select_bool, ← v47_at]
  unfold res_main_v91
  clean_types
  pointwise
theorem v100_at : (res_main_v100 V : S4x1792x11008.Idx → BitVec 32) (ix3 b s c) = rnd (acc V b s c) (mul V c) := by
  rw [← fold_rnd, ← fold_high2, ← v91_at, ← v84_at, ← v77_at, ← v69_at, ← v53_at, ← v57_at, ← bit_word]
  unfold res_main_v100
  clean_types
  simp only [id_eq]
  pointwise
  rw [host_shli, host_shrui, host_shrui, host_shrui]
  rfl
theorem v102_at : (res_main_v102 V : S4x1792x11008.Idx → BitVec 32) (ix3 b s c) = quot (acc V b s c) (mul V c) := by
  rw [← fold_quot, ← v100_at, ← not_ite, ← select_bool, ← v47_at]
  unfold res_main_v102
  clean_types
  pointwise
theorem v106_at : (res_main_v106 V : S11008.Idx → BitVec 32) (ix1 c) = mask (shift V c) := by
  rw [← fold_mask]
  unfold res_main_v106 shift
  clean_types
  pointwise
  rw [host_shli]
/-- The reference's result at an element. -/
theorem result_at : result V (ix3 b s c) = requant (acc V b s c) (mul V c) (shift V c) (zero V) := by
  unfold result requant scaled
  clean_types
  simp only [id_eq]
  pointwise
  rw [← fold_thr, ← v102_at, ← v106_at, ← bit_word, ← bit_word]
  rfl
end At

end Cert.Value.Ref
-- ==== Proof.Value.lean ====
/- The algebraic claim: where every weight zero point lies between 0 and 15, the kernel and the reference, over the ideal
   values and from equal arguments, end with equal results. -/
module

public import proofs.«01_k».proof.Defs
public import proofs.«01_k».proof.Proof.Launch
public import proofs.«01_k».proof.Proof.RefVal
public import proofs.«01_k».proof.Proof.Gen.Pre_zero_points
public import Idealize.ShloMosaic.Lib.Claim

@[expose] public section

set_option maxRecDepth 16384

noncomputable section

namespace Cert.Value

open Cert.Value.Host Cert.Value.Point Cert.Value.Launch
open Idealize.ShloMosaic Idealize.ShloMosaic.TcCoe
open Idealize.SL.Sem
open Cert.KernelIdeal (nD τ sig)

variable (m : (ℓ : Loc nD τ sig) → Buf (Elt Ideal) ℓ)

/-- The precondition, one column at a time. -/
theorem zeros [Cert.Pre_zero_points.Facts] (h : Cert.Pre_KernelIdeal_zero_points m) : Zeros m := by
  intro j
  have e := congrFun (h 0) (ix1 j)
  have hb : IntOp.andi (IntOp.cmpi .sge ((arg m 0 Cert.KernelIdeal.main_arg3 : Cert.KernelIdeal.S11008.Idx → BitVec 32) (ix1 j)) 0#32)
      (IntOp.cmpi .sle ((arg m 0 Cert.KernelIdeal.main_arg3 : Cert.KernelIdeal.S11008.Idx → BitVec 32) (ix1 j)) 15#32) = 1#1 := by
    refine Eq.trans ?_ e
    pointwise [Cert.Pre_zero_points.fn]
  obtain ⟨h0, h1⟩ := and_bit _ _ hb
  exact ⟨sge_bit _ _ h0, sle_bit _ _ h1⟩

variable (m' : (ℓ : Loc Cert.ReferenceIdeal.nD Cert.ReferenceIdeal.τ Cert.ReferenceIdeal.sig) → Buf (Elt Ideal) ℓ)

/-- The two programs' arguments are equal. -/
abbrev SameArgs : Prop := ∀ c : Dev nD,
  m' ((c.tc : Thread Cert.ReferenceIdeal.nD Cert.ReferenceIdeal.τ).loc Cert.ReferenceIdeal.main_arg0) = m ((c.tc : Thread nD τ).loc Cert.KernelIdeal.main_arg0)
  ∧ m' ((c.tc : Thread Cert.ReferenceIdeal.nD Cert.ReferenceIdeal.τ).loc Cert.ReferenceIdeal.main_arg1) = m ((c.tc : Thread nD τ).loc Cert.KernelIdeal.main_arg1)
  ∧ m' ((c.tc : Thread Cert.ReferenceIdeal.nD Cert.ReferenceIdeal.τ).loc Cert.ReferenceIdeal.main_arg2) = m ((c.tc : Thread nD τ).loc Cert.KernelIdeal.main_arg2)
  ∧ m' ((c.tc : Thread Cert.ReferenceIdeal.nD Cert.ReferenceIdeal.τ).loc Cert.ReferenceIdeal.main_arg3) = m ((c.tc : Thread nD τ).loc Cert.KernelIdeal.main_arg3)
  ∧ m' ((c.tc : Thread Cert.ReferenceIdeal.nD Cert.ReferenceIdeal.τ).loc Cert.ReferenceIdeal.main_arg4) = m ((c.tc : Thread nD τ).loc Cert.KernelIdeal.main_arg4)
  ∧ m' ((c.tc : Thread Cert.ReferenceIdeal.nD Cert.ReferenceIdeal.τ).loc Cert.ReferenceIdeal.main_arg5) = m ((c.tc : Thread nD τ).loc Cert.KernelIdeal.main_arg5)
  ∧ m' ((c.tc : Thread Cert.ReferenceIdeal.nD Cert.ReferenceIdeal.τ).loc Cert.ReferenceIdeal.main_arg6) = m ((c.tc : Thread nD τ).loc Cert.KernelIdeal.main_arg6)
  ∧ m' ((c.tc : Thread Cert.ReferenceIdeal.nD Cert.ReferenceIdeal.τ).loc Cert.ReferenceIdeal.main_arg7) = m ((c.tc : Thread nD τ).loc Cert.KernelIdeal.main_arg7)

/-- The two results, at an element. -/
theorem results_at (h : SameArgs m m') (b : Fin 4) (s : Fin 1792) (j : Fin 11008) :
    (Ref.result (StableHlo.launchContents m' 0) : Cert.KernelIdeal.S4x1792x11008.Idx → BitVec 8) (ix3 b s j) = Y m (ix3 b s j) := by
  obtain ⟨e0, e1, e2, e3, e4, e5, e6, e7⟩ := h 0
  refine (Ref.result_at _ b s j).trans ?_
  unfold Y elem
  have hx : (fun k => (Cert.KernelIdeal.Run.V m 0 Cert.KernelIdeal.main_v43 : Cert.KernelIdeal.S7168x4096.Idx → BitVec 8) (ix2 ⟨b.val * 1792 + s.val, by omega⟩ k))
      = fun k => (arg m 0 Cert.KernelIdeal.main_arg0 : Cert.KernelIdeal.S4x1792x4096.Idx → BitVec 8) (ix3 b s k) := funext fun k => rows m 0 b s k
  have hw := weights m 0
  show _ = requant (accRef (fun k => (Cert.KernelIdeal.Run.V m 0 Cert.KernelIdeal.main_v43 : Cert.KernelIdeal.S7168x4096.Idx → BitVec 8) (ix2 ⟨b.val * 1792 + s.val, by omega⟩ k))
    (fun k => (Cert.KernelIdeal.Run.V m 0 Cert.KernelIdeal.main_arg2 : Cert.KernelIdeal.S2048x11008.Idx → BitVec 8) (ix2 k j)) _ _ _) _ _ _
  rw [hx, hw]
  unfold arg
  have f0 : (m' (0, Proc.devRef .tc Cert.ReferenceIdeal.main_arg0) : Cert.KernelIdeal.S4x1792x4096.Idx → BitVec 8) = m (0, Proc.devRef .tc Cert.KernelIdeal.main_arg0) := e0
  have f1 : (m' (0, Proc.devRef .tc Cert.ReferenceIdeal.main_arg1) : Cert.KernelIdeal.S_.Idx → BitVec 32) = m (0, Proc.devRef .tc Cert.KernelIdeal.main_arg1) := e1
  have f2 : (m' (0, Proc.devRef .tc Cert.ReferenceIdeal.main_arg2) : Cert.KernelIdeal.S2048x11008.Idx → BitVec 8) = m (0, Proc.devRef .tc Cert.KernelIdeal.main_arg2) := e2
  have f3 : (m' (0, Proc.devRef .tc Cert.ReferenceIdeal.main_arg3) : Cert.KernelIdeal.S11008.Idx → BitVec 32) = m (0, Proc.devRef .tc Cert.KernelIdeal.main_arg3) := e3
  have f4 : (m' (0, Proc.devRef .tc Cert.ReferenceIdeal.main_arg4) : Cert.KernelIdeal.S11008.Idx → BitVec 32) = m (0, Proc.devRef .tc Cert.KernelIdeal.main_arg4) := e4
  have f5 : (m' (0, Proc.devRef .tc Cert.ReferenceIdeal.main_arg5) : Cert.KernelIdeal.S11008.Idx → BitVec 32) = m (0, Proc.devRef .tc Cert.KernelIdeal.main_arg5) := e5
  have f6 : (m' (0, Proc.devRef .tc Cert.ReferenceIdeal.main_arg6) : Cert.KernelIdeal.S11008.Idx → BitVec 32) = m (0, Proc.devRef .tc Cert.KernelIdeal.main_arg6) := e6
  have f7 : (m' (0, Proc.devRef .tc Cert.ReferenceIdeal.main_arg7) : Cert.KernelIdeal.S_.Idx → BitVec 32) = m (0, Proc.devRef .tc Cert.KernelIdeal.main_arg7) := e7
  rw [← f0, ← f1, ← f2, ← f3, ← f4, ← f5, ← f6, ← f7]
  rfl

theorem results (h : SameArgs m m') (c : Dev Cert.ReferenceIdeal.nD) :
    (Ref.result (StableHlo.launchContents m' c) : Cert.KernelIdeal.S4x1792x11008.Idx → BitVec 8) = Y m := by
  obtain rfl : c = 0 := Subsingleton.elim _ _
  refine funext fun (i : Cert.KernelIdeal.S4x1792x11008.Idx) => ?_
  idx_vars i
  exact results_at m m' h i0 i1 i2

/-- The algebraic claim. -/
theorem algebraic : Cert.algebraic_KernelIdeal_ReferenceIdeal_pre_zero_points
    (hKernelIdeal := Cert.KernelIdeal.Gen.facts) (hReferenceIdeal := Cert.ReferenceIdeal.Gen.facts) (hPre_zero_points := Cert.Pre_zero_points.Gen.facts) := by
  intro m g m' g' hpre hargs
  refine ⟨fun _ => Y m, ?_, ?_⟩
  · refine (θ_run _ _ _).mono (fun r h c => ?_) (θ_run_and (run_value m (zeros m hpre) g) (Cert.KernelIdeal.Run.frame_run (F := Ideal) m g))
    refine ⟨h.1 c, ?_⟩
    have f := h.2.1 c
    exact ⟨f _ (by decide), f _ (by decide), f _ (by decide), f _ (by decide), f _ (by decide), f _ (by decide), f _ (by decide), f _ (by decide)⟩
  · refine (θ_run _ _ _).mono (fun r h c => ?_) (Cert.ReferenceIdeal.Value.run (F := Ideal) m' g')
    exact ⟨(h c).1.trans (results m m' hargs c), (h c).2⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_zero_points
public import proofs.«01_k».proof.Proof.FrameIdeal
public import proofs.«01_k».proof.Proof.FrameKernel
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frame of `Kernel`. -/
theorem frame_kernel : Cert.quiescent_Kernel := fun m g _ =>
  (θ_run (Cert.Kernel.defs (F := Bits)) _ _).mono (fun r h => ⟨fun c => ⟨h.1 c _ (by decide), h.1 c _ (by decide), h.1 c _ (by decide), h.1 c _ (by decide), h.1 c _ (by decide), h.1 c _ (by decide), h.1 c _ (by decide), h.1 c _ (by decide)⟩, h.2⟩)
    (Cert.Kernel.Run.frame_run (F := Bits) m g)

/-- The frame of `KernelIdeal`. -/
theorem frame_kernel_ideal : Cert.quiescent_KernelIdeal := fun m g _ =>
  (θ_run (Cert.KernelIdeal.defs (F := Ideal)) _ _).mono (fun r h => ⟨fun c => ⟨h.1 c _ (by decide), h.1 c _ (by decide), h.1 c _ (by decide), h.1 c _ (by decide), h.1 c _ (by decide), h.1 c _ (by decide), h.1 c _ (by decide), h.1 c _ (by decide)⟩, h.2⟩)
    (Cert.KernelIdeal.Run.frame_run (F := Ideal) m g)

/-- The frame of the reference, which declares no semaphore. -/
theorem frame_reference : Cert.quiescent_ReferenceIdeal := fun m g _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m g)

/-- Every claim of the certificate. -/
theorem claim : Cert.Claim := ⟨Cert.Kernel.Gen.facts, Cert.KernelIdeal.Gen.facts, Cert.ReferenceIdeal.Gen.facts, Cert.Pre_zero_points.Gen.facts,
  frame_kernel, frame_kernel_ideal, fun m g _ => frame_kernel_ideal m g trivial, frame_reference, fun m g _ => frame_reference m g trivial, trivial,
  Cert.Value.algebraic⟩

end Cert.Proof

end
